-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boundaries [hPre_boundaries : Cert.Pre_boundaries.Facts] (m : (ℓ : Loc Cert.KernelIdeal.nD Cert.KernelIdeal.τ Cert.KernelIdeal.sig) → Buf (Elt Ideal) ℓ) : Prop :=
  ∀ c : Dev Cert.KernelIdeal.nD,
    (Cert.Pre_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boundaries [hPre_boundaries : Cert.Pre_boundaries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boundaries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_boundaries [hKernelIdeal : Cert.KernelIdeal.Facts] [hPre_boundaries : Cert.Pre_boundaries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boundaries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boundaries [hReferenceIdeal : Cert.ReferenceIdeal.Facts] [hPre_boundaries : Cert.Pre_boundaries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boundaries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_boundaries [hKernelIdeal : Cert.KernelIdeal.Facts] [hReferenceIdeal : Cert.ReferenceIdeal.Facts] [hPre_boundaries : Cert.Pre_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boundaries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_boundaries : Cert.Pre_boundaries.Facts),
    quiescent_Kernel (hKernel := hKernel)
    ∧ quiescent_KernelIdeal (hKernelIdeal := hKernelIdeal)
    ∧ quiescent_KernelIdeal_pre_boundaries (hKernelIdeal := hKernelIdeal) (hPre_boundaries := hPre_boundaries)
    ∧ quiescent_ReferenceIdeal (hReferenceIdeal := hReferenceIdeal)
    ∧ quiescent_ReferenceIdeal_pre_boundaries (hReferenceIdeal := hReferenceIdeal) (hPre_boundaries := hPre_boundaries)
    ∧ preserves_Kernel_KernelIdeal
    ∧ algebraic_KernelIdeal_ReferenceIdeal_pre_boundaries (hKernelIdeal := hKernelIdeal) (hReferenceIdeal := hReferenceIdeal) (hPre_boundaries := hPre_boundaries)
-- ==== Pre_boundaries.lean ====
abbrev S1024x16x128 : Shape := ⟨3, ![1024, 16, 128]⟩
abbrev S1024x4x128 : Shape := ⟨3, ![1024, 4, 128]⟩
abbrev S5 : Shape := ⟨1, ![5]⟩
abbrev S3 : Shape := ⟨1, ![3]⟩
abbrev S_ : Shape := ⟨0, ![]⟩
abbrev S1 : Shape := ⟨1, ![1]⟩

class Facts : Prop where
  slices_S5_S3_1 : S5.Slices ![1] S3
  bcast_S_S1024x16x128 : S_.BroadcastsInDim S1024x16x128 (![] : Fin 0 → Fin S1024x16x128.rank)
  reducesTo_S1024x16x128_S_d0_1_2 : S1024x16x128.ReducesTo [0, 1, 2] S_
  h_S_ : 0 < S_.numel
  bcast_S_S1024x4x128 : S_.BroadcastsInDim S1024x4x128 (![] : Fin 0 → Fin S1024x4x128.rank)
  reducesTo_S1024x4x128_S_d0_1_2 : S1024x4x128.ReducesTo [0, 1, 2] S_
  slices_S5_S1_1 : S5.Slices ![1] S1
  shapeCasts_S1_S_ : S1.ShapeCasts S_
  slices_S5_S1_2 : S5.Slices ![2] S1
  slices_S5_S1_3 : S5.Slices ![3] S1
  slices_S5_S1_4 : S5.Slices ![4] S1
  bcast_S_S3 : S_.BroadcastsInDim S3 (![] : Fin 0 → Fin S3.rank)
  reducesTo_S3_S_d0 : S3.ReducesTo [0] S_

variable [Facts]

def fn_part2 {F : FTy → Type} [FloatOps F] (main_v9 : IVec S_ 1) (main_v24 : IVec S_ 1) (main_v30 : IVec S_ 1) (main_v36 : IVec S_ 1) : IVec S_ 1 :=
  let main_v37 : IVec S_ 1 := andi main_v30 main_v36
  let main_v38 : IVec S_ 1 := andi main_v9 main_v24
  let main_v39 : IVec S_ 1 := andi main_v38 main_v37
  main_v39

def fn_part1 {F : FTy → Type} [FloatOps F] (main_arg3 : IVec S5 32) (main_v0 : IVec S3 32) (main_v9 : IVec S_ 1) (main_v14 : IVec S_ 1) (main_v19 : IVec S_ 1) : IVec S_ 1 :=
  let main_v20 : IVec S_ 1 := andi main_v14 main_v19
  let main_v21 : IVec S1 32 := (extractStridedSlice S1 ![4] · slices_S5_S1_4) main_arg3
  let main_v22 : IVec S_ 32 := shapeCast S_ main_v21 shapeCasts_S1_S_
  let main_c_2 : IVec S_ 32 := constantI S_ 32 1024#32
  let main_v23 : IVec S_ 1 := cmpi .sge main_v22 main_c_2
  let main_v24 : IVec S_ 1 := andi main_v20 main_v23
  let main_c_3 : IVec S_ 32 := constantI S_ 32 128#32
  let main_v25 : IVec S3 32 := broadcastInDim S3 ![] bcast_S_S3 main_c_3
  let main_v26 : IVec S3 1 := cmpi .sge main_v0 main_v25
  let main_c_4 : IVec S_ 32 := constantI S_ 32 256#32
  let main_v27 : IVec S3 32 := broadcastInDim S3 ![] bcast_S_S3 main_c_4
  let main_v28 : IVec S3 1 := cmpi .sle main_v0 main_v27
  let main_v29 : IVec S3 1 := andi main_v26 main_v28
  let main_c_5 : IVec S_ 1 := constantI S_ 1 0#1
  let main_v30 : IVec S_ 1 := (fun x v => Host.reduce IntOp.ori x v reducesTo_S3_S_d0 h_S_) main_v29 main_c_5
  let main_c_6 : IVec S_ 32 := constantI S_ 32 384#32
  let main_v31 : IVec S3 32 := broadcastInDim S3 ![] bcast_S_S3 main_c_6
  let main_v32 : IVec S3 1 := cmpi .sge main_v0 main_v31
  let main_c_7 : IVec S_ 32 := constantI S_ 32 512#32
  let main_v33 : IVec S3 32 := broadcastInDim S3 ![] bcast_S_S3 main_c_7
  let main_v34 : IVec S3 1 := cmpi .sle main_v0 main_v33
  let main_v35 : IVec S3 1 := andi main_v32 main_v34
  let main_c_8 : IVec S_ 1 := constantI S_ 1 0#1
  let main_v36 : IVec S_ 1 := (fun x v => Host.reduce IntOp.ori x v reducesTo_S3_S_d0 h_S_) main_v35 main_c_8
  fn_part2 (F := F) main_v9 main_v24 main_v30 main_v36

def fn {F : FTy → Type} [FloatOps F] (main_arg0 : FVec F S1024x16x128 .f32) (main_arg1 : FVec F S1024x4x128 .f32) (main_arg2 : FVec F S1024x4x128 .f32) (main_arg3 : IVec S5 32) : IVec S_ 1 :=
  let main_v0 : IVec S3 32 := (extractStridedSlice S3 ![1] · slices_S5_S3_1) main_arg3
  let main_v1 : FVec F S1024x16x128 .f32 := Host.absf main_arg0
  let main_cst : FVec F S_ .f32 := constant S_ .f32 0x7F800000#32
  let main_v2 : FVec F S1024x16x128 .f32 := broadcastInDim S1024x16x128 ![] bcast_S_S1024x16x128 main_cst
  let main_v3 : IVec S1024x16x128 1 := cmpf .olt main_v1 main_v2
  let main_c : IVec S_ 1 := constantI S_ 1 1#1
  let main_v4 : IVec S_ 1 := (fun x v => Host.reduce IntOp.andi x v reducesTo_S1024x16x128_S_d0_1_2 h_S_) main_v3 main_c
  let main_v5 : FVec F S1024x4x128 .f32 := Host.absf main_arg1
  let main_cst_0 : FVec F S_ .f32 := constant S_ .f32 0x7F800000#32
  let main_v6 : FVec F S1024x4x128 .f32 := broadcastInDim S1024x4x128 ![] bcast_S_S1024x4x128 main_cst_0
  let main_v7 : IVec S1024x4x128 1 := cmpf .olt main_v5 main_v6
  let main_c_1 : IVec S_ 1 := constantI S_ 1 1#1
  let main_v8 : IVec S_ 1 := (fun x v => Host.reduce IntOp.andi x v reducesTo_S1024x4x128_S_d0_1_2 h_S_) main_v7 main_c_1
  let main_v9 : IVec S_ 1 := andi main_v4 main_v8
  let main_v10 : IVec S1 32 := (extractStridedSlice S1 ![1] · slices_S5_S1_1) main_arg3
  let main_v11 : IVec S_ 32 := shapeCast S_ main_v10 shapeCasts_S1_S_
  let main_v12 : IVec S1 32 := (extractStridedSlice S1 ![2] · slices_S5_S1_2) main_arg3
  let main_v13 : IVec S_ 32 := shapeCast S_ main_v12 shapeCasts_S1_S_
  let main_v14 : IVec S_ 1 := cmpi .sle main_v11 main_v13
  let main_v15 : IVec S1 32 := (extractStridedSlice S1 ![2] · slices_S5_S1_2) main_arg3
  let main_v16 : IVec S_ 32 := shapeCast S_ main_v15 shapeCasts_S1_S_
  let main_v17 : IVec S1 32 := (extractStridedSlice S1 ![3] · slices_S5_S1_3) main_arg3
  let main_v18 : IVec S_ 32 := shapeCast S_ main_v17 shapeCasts_S1_S_
  let main_v19 : IVec S_ 1 := cmpi .sle main_v16 main_v18
  fn_part1 (F := F) main_arg3 main_v0 main_v9 main_v14 main_v19
-- ==== Kernel.lean ====
abbrev S1024x16x128 : Shape := ⟨3, ![1024, 16, 128]⟩
abbrev S1024x4x128 : Shape := ⟨3, ![1024, 4, 128]⟩
abbrev S5 : Shape := ⟨1, ![5]⟩
abbrev S2x16x256x128 : Shape := ⟨4, ![2, 16, 256, 128]⟩
abbrev S2x4x640x128 : Shape := ⟨4, ![2, 4, 640, 128]⟩
abbrev S2 : Shape := ⟨1, ![2]⟩
abbrev S1 : Shape := ⟨1, ![1]⟩
abbrev S_ : Shape := ⟨0, ![]⟩
abbrev S1x1x256x128 : Shape := ⟨4, ![1, 1, 256, 128]⟩
abbrev S256x128 : Shape := ⟨2, ![256, 128]⟩
abbrev S256x1x128 : Shape := ⟨3, ![256, 1, 128]⟩
abbrev S1x1x384x128 : Shape := ⟨4, ![1, 1, 384, 128]⟩
abbrev S384x128 : Shape := ⟨2, ![384, 128]⟩
abbrev S384x1x128 : Shape := ⟨3, ![384, 1, 128]⟩
abbrev S256x256 : Shape := ⟨2, ![256, 256]⟩
abbrev S256x1 : Shape := ⟨2, ![256, 1]⟩
abbrev S256x384 : Shape := ⟨2, ![256, 384]⟩
abbrev S384x256 : Shape := ⟨2, ![384, 256]⟩
abbrev S1x1x640x128 : Shape := ⟨4, ![1, 1, 640, 128]⟩
abbrev S640x128 : Shape := ⟨2, ![640, 128]⟩
abbrev S640x1x128 : Shape := ⟨3, ![640, 1, 128]⟩
abbrev S256x640 : Shape := ⟨2, ![256, 640]⟩
abbrev S640x256 : Shape := ⟨2, ![640, 256]⟩

abbrev nBuf : Space → Nat
  | .hbm => 4
  | .vmem => 4
  | .smem => 1
  | _ => 0

abbrev bufTy : (tb : Table) → Fin (tcTables nBuf tb) → BufTy
  | .hbm, ⟨0, _⟩ => ⟨S1024x16x128, .f32⟩
  | .hbm, ⟨1, _⟩ => ⟨S1024x4x128, .f32⟩
  | .hbm, ⟨2, _⟩ => ⟨S1024x4x128, .f32⟩
  | .hbm, ⟨3, _⟩ => ⟨S1024x16x128, .f32⟩
  | .local _ .vmem, ⟨0, _⟩ => ⟨S2x16x256x128, .f32⟩
  | .local _ .vmem, ⟨1, _⟩ => ⟨S2x4x640x128, .f32⟩
  | .local _ .vmem, ⟨2, _⟩ => ⟨S2x4x640x128, .f32⟩
  | .local _ .vmem, ⟨3, _⟩ => ⟨S2x16x256x128, .f32⟩
  | .local _ .smem, ⟨0, _⟩ => ⟨S5, .i32⟩
  | _, _ => ⟨S1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S1024x16x128 : Shape := ⟨3, ![1024, 16, 128]⟩
abbrev S1024x4x128 : Shape := ⟨3, ![1024, 4, 128]⟩
abbrev S5 : Shape := ⟨1, ![5]⟩
abbrev S1024 : Shape := ⟨1, ![1024]⟩
abbrev S4 : Shape := ⟨1, ![4]⟩
abbrev S1x4 : Shape := ⟨2, ![1, 4]⟩
abbrev S1024x1 : Shape := ⟨2, ![1024, 1]⟩
abbrev S1024x4 : Shape := ⟨2, ![1024, 4]⟩
abbrev S_ : Shape := ⟨0, ![]⟩
abbrev S1024x4x4x128 : Shape := ⟨4, ![1024, 4, 4, 128]⟩
abbrev S16x1024x1024 : Shape := ⟨3, ![16, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S16x1024 : Shape := ⟨2, ![16, 1024]⟩
abbrev S16x1024x1 : Shape := ⟨3, ![16, 1024, 1]⟩
abbrev S16x128x1024 : Shape := ⟨3, ![16, 128, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x16x128, .f32⟩
  | .hbm, ⟨1, _⟩ => ⟨S1024x4x128, .f32⟩
  | .hbm, ⟨2, _⟩ => ⟨S1024x4x128, .f32⟩
  | .hbm, ⟨3, _⟩ => ⟨S5, .i32⟩
  | .hbm, ⟨4, _⟩ => ⟨S1024, .i32⟩
  | .hbm, ⟨5, _⟩ => ⟨S4, .i32⟩
  | .hbm, ⟨6, _⟩ => ⟨S1x4, .i32⟩
  | .hbm, ⟨7, _⟩ => ⟨S1024x1, .i32⟩
  | .hbm, ⟨8, _⟩ => ⟨S1024x4, .i32⟩
  | .hbm, ⟨9, _⟩ => ⟨S1024x4, .i32⟩
  | .hbm, ⟨10, _⟩ => ⟨S1024x4, .i1⟩
  | .hbm, ⟨11, _⟩ => ⟨S1024x4, .i32⟩
  | .hbm, ⟨12, _⟩ => ⟨S_, .i32⟩
  | .hbm, ⟨13, _⟩ => ⟨S1024, .i32⟩
  | .hbm, ⟨14, _⟩ => ⟨S1024x4x4x128, .f32⟩
  | .hbm, ⟨15, _⟩ => ⟨S1024x16x128, .f32⟩
  | .hbm, ⟨16, _⟩ => ⟨S1024x4x4x128, .f32⟩
  | .hbm, ⟨17, _⟩ => ⟨S1024x16x128, .f32⟩
  | .hbm, ⟨18, _⟩ => ⟨S16x1024x1024, .f32⟩
  | .hbm, ⟨19, _⟩ => ⟨S_, .f32⟩
  | .hbm, ⟨20, _⟩ => ⟨S_, .f32⟩
  | .hbm, ⟨21, _⟩ => ⟨S16x1024x1024, .f32⟩
  | .hbm, ⟨22, _⟩ => ⟨S16x1024x1024, .f32⟩
  | .hbm, ⟨23, _⟩ => ⟨S1024x1, .i32⟩
  | .hbm, ⟨24, _⟩ => ⟨S1x1024, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1, .i32⟩
  | .hbm, ⟨29, _⟩ => ⟨S1x1024, .i32⟩
  | .hbm, ⟨30, _⟩ => ⟨S1024x1024, .i32⟩
  | .hbm, ⟨31, _⟩ => ⟨S1024x1024, .i32⟩
  | .hbm, ⟨32, _⟩ => ⟨S1024x1024, .i1⟩
  | .hbm, ⟨33, _⟩ => ⟨S1024x1024, .i1⟩
  | .hbm, ⟨34, _⟩ => ⟨S1x1024x1024, .i1⟩
  | .hbm, ⟨35, _⟩ => ⟨S_, .f32⟩
  | .hbm, ⟨36, _⟩ => ⟨S_, .f32⟩
  | .hbm, ⟨37, _⟩ => ⟨S16x1024x1024, .i1⟩
  | .hbm, ⟨38, _⟩ => ⟨S16x1024x1024, .f32⟩
  | .hbm, ⟨39, _⟩ => ⟨S16x1024x1024, .f32⟩
  | .hbm, ⟨40, _⟩ => ⟨S_, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024x1, .f32⟩
  | .hbm, ⟨46, _⟩ => ⟨S16x1024x1024, .f32⟩
  | .hbm, ⟨47, _⟩ => ⟨S16x1024x1024, .f32⟩
  | .hbm, ⟨48, _⟩ => ⟨S16x1024x1024, .f32⟩
  | .hbm, ⟨49, _⟩ => ⟨S_, .f32⟩
  | .hbm, ⟨50, _⟩ => ⟨S16x1024, .f32⟩
  | .hbm, ⟨51, _⟩ => ⟨S16x1024x1, .f32⟩
  | .hbm, ⟨52, _⟩ => ⟨S16x1024x1024, .f32⟩
  | .hbm, ⟨53, _⟩ => ⟨S16x1024x1024, .f32⟩
  | .hbm, ⟨54, _⟩ => ⟨S16x128x1024, .f32⟩
  | .hbm, ⟨55, _⟩ => ⟨S1024x16x128, .f32⟩
  | _, _ => ⟨S1024x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Plan.lean ====
/-
  The kernel's schedule as lists of copies: at each of its four grid points it starts the copies of a
  block's query heads and of a window of key and value rows, waits for the copies of an earlier start, runs
  the sixteen heads, and starts the copies of their results. Stated over any signature holding the nine
  buffers and the two pairs of semaphores, so that both printed programs are instances.
-/
module

public import Idealize.ShloMosaic.Lib.MixedBatch
public import Idealize.ShloMosaic.Lib.Tactic
public import Idealize.ShloMosaic.Lib.ReshapeSlab
public import Idealize.ShloMosaic.Lib.ValueLayout
public import Idealize.ShloMosaic.Lib.Pipeline.FrameBody
public import Idealize.ShloMosaic.Lib.Pipeline.Value

@[expose] public section

noncomputable section

namespace Attn

open Idealize.ShloMosaic Idealize.SL.Sem

/-! ## Shapes -/

/-- Queries and results: row, head, feature. -/
abbrev SA : Shape := ⟨3, ![1024, 16, 128]⟩
/-- Keys and values: row, key head, feature. -/
abbrev SB : Shape := ⟨3, ![1024, 4, 128]⟩
/-- The two slots of query or result blocks. -/
abbrev SQ : Shape := ⟨4, ![2, 16, 256, 128]⟩
/-- The two slots of key or value windows. -/
abbrev SK : Shape := ⟨4, ![2, 4, 640, 128]⟩
/-- A two-element array of semaphores. -/
abbrev S2v : Shape := ⟨1, ![2]⟩
/-- The block one head of one slot holds, with its unit axes. -/
abbrev Slab (n : ℕ) : Shape := ⟨4, ![1, 1, n, 128]⟩
/-- `n` rows of one head, with the head's unit axis. -/
abbrev Strip (n : ℕ) : Shape := ⟨3, ![n, 1, 128]⟩
/-- `n` rows of 128 features. -/
abbrev Mat (n : ℕ) : Shape := ⟨2, ![n, 128]⟩

/-- A window of key rows: where it starts, how many rows, and that it lies inside the array and the slot. -/
structure Win where
  st : ℕ
  n : ℕ
  hst : st + n ≤ 1024
  hn : n ≤ 640
  hpos : 0 < n
  sqStrip : (Strip n).Squeezes (Mat n)
  sqSlab : (Slab n).Squeezes (Mat n)

/-- The window of each of the four blocks of rows. -/
def win : Fin 4 → Win
  | 0 => ⟨0, 256, by decide, by decide, by decide, by decide, by decide⟩
  | 1 => ⟨128, 384, by decide, by decide, by decide, by decide, by decide⟩
  | 2 => ⟨384, 384, by decide, by decide, by decide, by decide, by decide⟩
  | 3 => ⟨384, 640, by decide, by decide, by decide, by decide, by decide⟩

theorem inbA (i : Fin 4) (h : Fin 16) : ∀ a, (![256 * i.val, h.val, 0] : Fin 3 → ℕ) a + (Strip 256).size a ≤ SA.size a := by
  intro a; have := i.isLt; have := h.isLt
  fin_cases a <;> simp [SA, Strip, Shape.size] <;> omega
theorem inbB (w : Win) (g : Fin 4) : ∀ a, (![w.st, g.val, 0] : Fin 3 → ℕ) a + (Strip w.n).size a ≤ SB.size a := by
  intro a; have := w.hst; have := g.isLt
  fin_cases a <;> simp [SB, Strip, Shape.size] <;> omega
theorem inbQ (s : Fin 2) (h : Fin 16) : ∀ a, (![s.val, h.val, 0, 0] : Fin 4 → ℕ) a + (Slab 256).size a ≤ SQ.size a := by
  intro a; have := s.isLt; have := h.isLt
  fin_cases a <;> simp [SQ, Slab, Shape.size] <;> omega
theorem inbK (n : ℕ) (hn : n ≤ 640) (s : Fin 2) (g : Fin 4) : ∀ a, (![s.val, g.val, 0, 0] : Fin 4 → ℕ) a + (Slab n).size a ≤ SK.size a := by
  intro a; have := s.isLt; have := g.isLt
  fin_cases a <;> simp [SK, Slab, Shape.size] <;> omega
theorem inbS (s : Fin 2) : ∀ a, (![s.val] : Fin 1 → ℕ) a + (![1] : Fin 1 → ℕ) a ≤ S2v.size a := by
  intro a; have := s.isLt
  fin_cases a; simp [S2v, Shape.size]; omega

theorem numelSlab (n : ℕ) (hn : 0 < n) : 0 < (Slab n).numel := by
  simp [Shape.numel, Fin.prod_univ_succ, hn]
theorem numelMat (n : ℕ) (hn : 0 < n) : 0 < (Mat n).numel := by
  simp [Shape.numel, Fin.prod_univ_succ, hn]

theorem sqStrip : (Strip 256).Squeezes (Mat 256) := by decide
theorem sqSlab : (Slab 256).Squeezes (Mat 256) := by decide
theorem sqSem : (⟨1, ![1]⟩ : Shape).Squeezes ⟨0, ![]⟩ := by decide

/-- One head's rows of block `i` in the query or result array. -/
abbrev rA (i : Fin 4) (h : Fin 16) : Rect SA := Rect.unit (s := SA) ![256 * i.val, h.val, 0] (Strip 256).size (inbA i h)
/-- One key head's rows of window `w`. -/
abbrev rB (w : Win) (g : Fin 4) : Rect SB := Rect.unit (s := SB) ![w.st, g.val, 0] (Strip w.n).size (inbB w g)
/-- One head's block in slot `s`. -/
abbrev rQ (s : Fin 2) (h : Fin 16) : Rect SQ := Rect.unit (s := SQ) ![s.val, h.val, 0, 0] (Slab 256).size (inbQ s h)
/-- The first `n` rows of one key head in slot `s`. -/
abbrev rK (n : ℕ) (hn : n ≤ 640) (s : Fin 2) (g : Fin 4) : Rect SK := Rect.unit (s := SK) ![s.val, g.val, 0, 0] (Slab n).size (inbK n hn s g)

variable (nD : ℕ) (τ : Topo) (sig : RefSig) (Val : EltTy → Type) (Λ : Labels)

/-- The kernel's operands and scratch buffers. -/
structure Bufs where
  q : Memref sig .tc .hbm SA .f32
  k : Memref sig .tc .hbm SB .f32
  v : Memref sig .tc .hbm SB .f32
  o : Memref sig .tc .hbm SA .f32
  qs : Memref sig .tc .vmem SQ .f32
  ks : Memref sig .tc .vmem SK .f32
  vs : Memref sig .tc .vmem SK .f32
  os : Memref sig .tc .vmem SQ .f32
  si : DmaSems sig S2v
  so : DmaSems sig S2v

/-- A copy between two views of one shape of 32-bit floats. -/
structure Copy where
  sp : Space
  sp' : Space
  s : Shape
  src : Memref sig .tc sp s .f32
  dst : Memref sig .tc sp' s .f32
  hsrc : src.view.WordExact
  hdst : dst.view.WordExact
  typed : ∀ sm : DmaSem sig, DmaTarget.Typed (nD := nD) (τ := τ) (p := .tc) sp (.dma sm) (.here dst)
  pos : 0 < s.numel

variable {nD τ sig Val Λ}

/-- Start a list of copies on one semaphore. -/
def startAll {α : Type} (sm : DmaSem sig) : List (Copy nD τ sig) → Prog (TpuEff nD τ sig Val Λ .tc) α → Prog (TpuEff nD τ sig Val Λ .tc) α
  | [], k => k
  | c :: cs, k => .op (.enqueueDma c.src (.here c.dst) (.dma sm) c.hsrc c.hdst (c.typed sm)) fun _ => startAll sm cs k

/-- Wait for a list of copies on one semaphore. -/
def waitAll {α : Type} (sm : DmaSem sig) : List (Copy nD τ sig) → Prog (TpuEff nD τ sig Val Λ .tc) α → Prog (TpuEff nD τ sig Val Λ .tc) α
  | [], k => k
  | c :: cs, k => .op (.waitDma2 sm c.src c.dst c.hsrc c.hdst) fun _ => waitAll sm cs k

namespace Bufs

variable (B : Bufs sig)

/-- Slot `s`'s semaphore of the copies in. -/
def semIn (s : Fin 2) : DmaSem sig := ((B.si.slice (Rect.unit (s := S2v) ![s.val] ![1] (inbS s))).squeeze ⟨0, ![]⟩ sqSem).sem
/-- Slot `s`'s semaphore of the copies out. -/
def semOut (s : Fin 2) : DmaSem sig := ((B.so.slice (Rect.unit (s := S2v) ![s.val] ![1] (inbS s))).squeeze ⟨0, ![]⟩ sqSem).sem

/-- Head `h`'s rows of block `i` of the queries or results. -/
abbrev stripA (m : Memref sig .tc .hbm SA .f32) (i : Fin 4) (h : Fin 16) : Memref sig .tc .hbm (Mat 256) .f32 :=
  (m.slice (rA i h) (fun _ => rfl)).squeeze (Mat 256) sqStrip
/-- Key head `g`'s rows of window `w`. -/
abbrev stripB (m : Memref sig .tc .hbm SB .f32) (w : Win) (g : Fin 4) : Memref sig .tc .hbm (Mat w.n) .f32 :=
  (m.slice (rB w g) (fun _ => rfl)).squeeze (Mat w.n) w.sqStrip
/-- Head `h`'s block in slot `s`. -/
abbrev slabQ (m : Memref sig .tc .vmem SQ .f32) (s : Fin 2) (h : Fin 16) : Memref sig .tc .vmem (Mat 256) .f32 :=
  (m.slice (rQ s h) (fun _ => rfl)).squeeze (Mat 256) sqSlab
/-- Key head `g`'s window rows in slot `s`. -/
abbrev slabK (m : Memref sig .tc .vmem SK .f32) (w : Win) (s : Fin 2) (g : Fin 4) : Memref sig .tc .vmem (Mat w.n) .f32 :=
  (m.slice (rK w.n w.hn s g) (fun _ => rfl)).squeeze (Mat w.n) w.sqSlab

/-- The copy of one query head into its slot. -/
def cpQ (i : Fin 4) (s : Fin 2) (h : Fin 16) : Copy nD τ sig :=
  ⟨.hbm, .vmem, Mat 256, stripA B.q i h, slabQ B.qs s h, (View.wordExact_bits rfl).reshape _ _, (View.wordExact_bits rfl).reshape _ _,
    fun _ => ⟨Or.inl rfl, trivial⟩, numelMat 256 (by decide)⟩
/-- The copy of one key head's window into its slot. -/
def cpK (w : Win) (s : Fin 2) (g : Fin 4) : Copy nD τ sig :=
  ⟨.hbm, .vmem, Mat w.n, stripB B.k w g, slabK B.ks w s g, (View.wordExact_bits rfl).reshape _ _, (View.wordExact_bits rfl).reshape _ _,
    fun _ => ⟨Or.inl rfl, trivial⟩, numelMat _ w.hpos⟩
/-- The copy of one value head's window into its slot. -/
def cpV (w : Win) (s : Fin 2) (g : Fin 4) : Copy nD τ sig :=
  ⟨.hbm, .vmem, Mat w.n, stripB B.v w g, slabK B.vs w s g, (View.wordExact_bits rfl).reshape _ _, (View.wordExact_bits rfl).reshape _ _,
    fun _ => ⟨Or.inl rfl, trivial⟩, numelMat _ w.hpos⟩
/-- The copy of one head's results out of its slot. -/
def cpO (i : Fin 4) (s : Fin 2) (h : Fin 16) : Copy nD τ sig :=
  ⟨.vmem, .hbm, Mat 256, slabQ B.os s h, stripA B.o i h, (View.wordExact_bits rfl).reshape _ _, (View.wordExact_bits rfl).reshape _ _,
    fun _ => ⟨Or.inl rfl, trivial⟩, numelMat 256 (by decide)⟩

/-- The sixteen heads in order. -/
def heads16 : List (Fin 16) := [0, 1, 2, 3, 4, 5, 6, 7, 8, 9, 10, 11, 12, 13, 14, 15]
/-- The four key heads in order. -/
def heads4 : List (Fin 4) := [0, 1, 2, 3]
/-- The four heads that read key head `g`. -/
def headsOf : Fin 4 → List (Fin 16)
  | 0 => [0, 1, 2, 3]
  | 1 => [4, 5, 6, 7]
  | 2 => [8, 9, 10, 11]
  | 3 => [12, 13, 14, 15]

/-- The copies in of block `i` to slot `s`. -/
def copiesIn (i : Fin 4) (w : Win) (s : Fin 2) : List (Copy nD τ sig) :=
  heads16.map (B.cpQ i s) ++ heads4.flatMap fun g => [B.cpK w s g, B.cpV w s g]
/-- The copies out of block `i` from slot `s`. -/
def copiesOut (i : Fin 4) (s : Fin 2) : List (Copy nD τ sig) := heads16.map (B.cpO i s)

/-- What one head's arithmetic makes of the keys, the values and the queries it loads. -/
abbrev Cells (Val : EltTy → Type) (n : ℕ) : Type :=
  Fin 16 → ((Slab n).Idx → Val .f32) → ((Slab n).Idx → Val .f32) → ((Slab 256).Idx → Val .f32) → (Slab 256).Idx → Val .f32

/-- The heads of one key head: load the queries, load and overwrite the results' block. -/
def runHeads {α : Type} (w : Win) (s : Fin 2) (f : Cells Val w.n) (kx vx : (Slab w.n).Idx → Val .f32) :
    List (Fin 16) → Prog (TpuEff nD τ sig Val Λ .tc) α → Prog (TpuEff nD τ sig Val Λ .tc) α
  | [], k => k
  | h :: hs, k => .op (.load B.qs (rQ s h).toLoadRect (View.loadsAt_vmem (numelSlab 256 (by decide)))) fun qx =>
      .op (.load B.os (rQ s h).toLoadRect (View.loadsAt_vmem (numelSlab 256 (by decide)))) fun _ =>
      .op (.store B.os (rQ s h) (f h kx vx qx) Finset.univ (View.stores_vmem_bits_univ (numelSlab 256 (by decide)) rfl) (.inl rfl)) fun _ =>
      runHeads w s f kx vx hs k

/-- The arithmetic of a block: for each key head, load its keys and values, then run its heads. -/
def runAll {α : Type} (w : Win) (s : Fin 2) (f : Cells Val w.n) :
    List (Fin 4) → Prog (TpuEff nD τ sig Val Λ .tc) α → Prog (TpuEff nD τ sig Val Λ .tc) α
  | [], k => k
  | g :: gs, k => .op (.load B.ks (rK w.n w.hn s g).toLoadRect (View.loadsAt_vmem (numelSlab _ w.hpos))) fun kx =>
      .op (.load B.vs (rK w.n w.hn s g).toLoadRect (View.loadsAt_vmem (numelSlab _ w.hpos))) fun vx =>
      B.runHeads w s f kx vx (headsOf g) (runAll w s f gs k)

/-- Start the copies in of block `i`. -/
abbrev startIn {α : Type} (i : Fin 4) (s : Fin 2) (k : Prog (TpuEff nD τ sig Val Λ .tc) α) := startAll (B.semIn s) (B.copiesIn i (win i) s) k
/-- Wait for the copies in of block `i`. -/
abbrev waitIn {α : Type} (i : Fin 4) (s : Fin 2) (k : Prog (TpuEff nD τ sig Val Λ .tc) α) := waitAll (B.semIn s) (B.copiesIn i (win i) s) k
/-- Start the copies out of block `i`. -/
abbrev startOut {α : Type} (i : Fin 4) (s : Fin 2) (k : Prog (TpuEff nD τ sig Val Λ .tc) α) := startAll (B.semOut s) (B.copiesOut i s) k
/-- Wait for the copies out of block `i`. -/
abbrev waitOut {α : Type} (i : Fin 4) (s : Fin 2) (k : Prog (TpuEff nD τ sig Val Λ .tc) α) := waitAll (B.semOut s) (B.copiesOut i s) k

/-- Grid point 0. -/
def point0 (f : Cells Val (win 0).n) : Prog (TpuEff nD τ sig Val Λ .tc) PUnit :=
  B.startIn 0 0 <| B.startIn 1 1 <| B.waitIn 0 0 <| B.runAll (win 0) 0 f heads4 <| B.startOut 0 0 <| .ret ⟨⟩
/-- Grid point 1. -/
def point1 (f : Cells Val (win 1).n) : Prog (TpuEff nD τ sig Val Λ .tc) PUnit :=
  B.startIn 2 0 <| B.waitIn 1 1 <| B.runAll (win 1) 1 f heads4 <| B.startOut 1 1 <| .ret ⟨⟩
/-- Grid point 2. -/
def point2 (f : Cells Val (win 2).n) : Prog (TpuEff nD τ sig Val Λ .tc) PUnit :=
  B.startIn 3 1 <| B.waitOut 0 0 <| B.waitIn 2 0 <| B.runAll (win 2) 0 f heads4 <| B.startOut 2 0 <| .ret ⟨⟩
/-- Grid point 3. -/
def point3 (f : Cells Val (win 3).n) : Prog (TpuEff nD τ sig Val Λ .tc) PUnit :=
  B.waitOut 1 1 <| B.waitIn 3 1 <| B.runAll (win 3) 1 f heads4 <| B.startOut 3 1 <| B.waitOut 2 0 <| B.waitOut 3 1 <| .ret ⟨⟩

end Bufs

end Attn

end
-- ==== Proof.Flights.lean ====
/-
  Starting a list of copies on one semaphore, and waiting for them: what each copy lends while it is under
  way, and what the last wait hands back.
-/
module

public import proofs.«01_k».proof.Proof.Plan
public import Idealize.ShloMosaic.Lib.Pipeline.BigSepL

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}

local notation "𝕄" => MT nD τ sig Unit Val ℕ (Pipeline.UD sig nD τ) ℕ

/-- A copy with what it lends: elements `U` of the source's buffer at a share, holding `fs`, and elements
    `Sd` of the destination's buffer. -/
structure Job (nD : ℕ) (τ : Topo) (sig : RefSig) (Val : EltTy → Type) (c : Dev nD) where
  cp : Copy nD τ sig
  q : PosShare TreeShare
  U : Finset (Idx (cp.src.view.loc (c : Thread nD τ)))
  Sd : Finset (Idx (cp.dst.view.loc (c : Thread nD τ)))
  fs : Buf Val (cp.src.view.loc (c : Thread nD τ))
  hU : cp.src.view.set ⊆ U
  hSd : cp.dst.view.set ⊆ Sd

namespace Job

variable {c : Dev nD}

/-- Held before the copy starts: the source, and the destination at some contents. -/
def held (j : Job nD τ sig Val c) : sProp 𝕄 :=
  iprop((j.cp.src.view.loc (c : Thread nD τ) ↦[j.U]{j.q} j.fs) ∗ ∃ fd, j.cp.dst.view.loc (c : Thread nD τ) ↦[j.Sd]{fullShare} fd)

/-- Held after it: the source, and the destination reading as the source does. -/
def done (j : Job nD τ sig Val c) : sProp 𝕄 :=
  iprop((j.cp.src.view.loc (c : Thread nD τ) ↦[j.U]{j.q} j.fs)
    ∗ ∃ fd, ⌜j.cp.dst.view.read Val fd = j.cp.src.view.read Val j.fs⌝ ∗ j.cp.dst.view.loc (c : Thread nD τ) ↦[j.Sd]{fullShare} fd)

/-- The part of the source the copy does not read, kept meanwhile. -/
def rest (j : Job nD τ sig Val c) : sProp 𝕄 :=
  j.cp.src.view.loc (c : Thread nD τ) ↦[j.U \ j.cp.src.view.set]{j.q} j.fs

/-- What the copy delivers when it lands. -/
def lands (j : Job nD τ sig Val c) : sProp 𝕄 :=
  iprop((j.cp.src.view.loc (c : Thread nD τ) ↦[j.cp.src.view.set]{j.q} j.fs)
    ∗ ∃ fd, ⌜j.cp.dst.view.read Val fd = j.cp.src.view.read Val j.fs⌝ ∗ j.cp.dst.view.loc (c : Thread nD τ) ↦[j.Sd]{fullShare} fd)

theorem rest_lands (j : Job nD τ sig Val c) : iprop(j.rest ∗ j.lands) ⊢ j.done := by
  unfold rest lands done
  iintro ⟨Hr, Hs, Hd⟩
  isplitr [Hd]
  · iapply (pointsTo_split_subset j.hU).2
    isplitl [Hs] <;> iassumption
  · iexact Hd

end Job

variable {c : Dev nD}

/-- The units each copy of a list adds to the semaphore. -/
def amts (L : List (Job nD τ sig Val c)) (t : Fin L.length) : ℕ := (L.get t).cp.dst.view.dmaCredit
/-- What each copy of a list delivers. -/
def lands (L : List (Job nD τ sig Val c)) (t : Fin L.length) : sProp 𝕄 := (L.get t).lands

/-- The copies of `L`, `j` of them started and `u` units of the semaphore waited for. -/
abbrev batch (sm : DmaSem sig) (L : List (Job nD τ sig Val c)) (j u : ℕ) : sProp 𝕄 :=
  Transfers.MixedBatch (countersEmb (U := Pipeline.UD sig nD τ)) (c : Thread nD τ) (.dma sm) () (amts L) (lands L) j u

/-- The copies of `L` all under way. -/
def flight (sm : DmaSem sig) (L : List (Job nD τ sig Val c)) : sProp 𝕄 :=
  iprop(batch sm L L.length 0 ∗ bigSepL L Job.rest)

theorem amts_pos (L : List (Job nD τ sig Val c)) (t : Fin L.length) : 0 < amts L t :=
  View.dmaCredit_pos _ (L.get t).cp.pos

theorem sumTo_le {n : ℕ} (A : Fin n → ℕ) (k : ℕ) (hk : k ≤ n) : Transfers.sumTo A k ≤ Transfers.sumTo A n := by
  rw [Transfers.sumTo_total, ← Transfers.sumTo_add_pending A k hk]
  exact Nat.le_add_right _ _

variable {defs : Defs nD τ sig Val Λ} (𝒱 : Variants) (bd : Option 𝒱.V) {α : Type} {Q : α → sProp (MT nD τ sig Unit Val ℕ (Pipeline.UD sig nD τ) ℕ)}

theorem start_from (sm : DmaSem sig) (L : List (Job nD τ sig Val c)) (k : Prog (TpuEff nD τ sig Val Λ .tc) α) :
    ∀ (suf : List (Job nD τ sig Val c)) (j : ℕ), L.drop j = suf → j ≤ L.length →
      iprop(bigSepL suf Job.held ∗ batch sm L j 0)
        ⊢ iprop((iprop(batch sm L L.length 0 ∗ bigSepL suf Job.rest) -∗ wp frame (wpE defs 𝒱 (c : Thread nD τ) bd) Set.univ k Q)
          -∗ wp frame (wpE defs 𝒱 (c : Thread nD τ) bd) Set.univ (startAll sm (suf.map Job.cp) k) Q)
  | [], j, h, hle => by
    have hj : j = L.length := Nat.le_antisymm hle (List.drop_eq_nil_iff.mp h)
    subst hj
    iintro ⟨-, HB⟩ Hk
    iapply Hk
    isplitl [HB]; · iexact HB
    iempintro
  | a :: suf, j, h, hle => by
    have hj : j < L.length := by
      by_contra hn
      rw [List.drop_eq_nil_of_le (Nat.le_of_not_lt hn)] at h
      exact absurd h (List.cons_ne_nil _ _).symm
    have ha : L.get ⟨j, hj⟩ = a := by
      have := List.drop_eq_getElem_cons hj
      rw [h] at this; exact (List.cons.inj this).1.symm
    have hs : L.drop (j + 1) = suf := by
      have := List.drop_eq_getElem_cons hj
      rw [h] at this; exact (List.cons.inj this).2.symm
    rw [bigSepL_cons', bigSepL_cons']
    iintro ⟨⟨Ha, Hsuf⟩, HB⟩ Hk
    unfold Job.held
    icases Ha with ⟨Hs, ⟨%fd, Hd⟩⟩
    ihave Hs' := (pointsTo_split_subset a.hU).1 $$ Hs
    icases Hs' with ⟨Hs, Hr⟩
    iapply (Transfers.wp_dmaMixedBatch countersEmb 𝒱 (c : Thread nD τ) bd (j := j) (u := 0) () (amts L) a.hSd hj (by subst ha; rfl) (Nat.zero_le _)
      (D := lands L) (fs := a.fs) (fd := fd) (q := a.q) (hsem := a.cp.typed sm) (by
        subst ha
        unfold lands Job.lands
        iintro ⟨Hd, Hs⟩
        isplitl [Hs]; · iexact Hs
        iexists _
        isplitr
        rotate_left
        · iexact Hd
        · ipureintro; exact View.read_write_univ _ _)) $$ [Hs Hd HB]
    · isplitl [Hs]; · iexact Hs
      isplitl [Hd]; · iexact Hd
      iexact HB
    iintro HB
    iapply (start_from sm L k suf (j + 1) hs hj) $$ [Hsuf HB]
    · isplitl [Hsuf]; · iexact Hsuf
      iexact HB
    iintro ⟨HB, Hrs⟩
    iapply Hk
    isplitl [HB]; · iexact HB
    isplitl [Hr]; · unfold Job.rest; iexact Hr
    iexact Hrs

/-- A chain over a list is a separating conjunction over its positions. -/
theorem bigSep_get {A : Type} (L : List A) (Φ : A → sProp 𝕄) :
    bigSep Finset.univ (fun t : Fin L.length => Φ (L.get t)) = bigSepL L Φ := by
  rw [bigSep_univ_eq_bigSepL (List.finRange L.length) (by ext; simp) (List.nodup_finRange _)]
  refine (bigSepL_map L.get (List.finRange L.length) Φ).symm.trans ?_
  congr 1
  exact List.map_get_finRange L

theorem rest_lands_all : ∀ L : List (Job nD τ sig Val c), iprop(bigSepL L Job.rest ∗ bigSepL L Job.lands) ⊢ bigSepL L Job.done
  | [] => by
    iintro -
    iempintro
  | a :: L => by
    rw [bigSepL_cons', bigSepL_cons', bigSepL_cons']
    iintro ⟨⟨Ha, HL⟩, Hb, HM⟩
    isplitl [Ha Hb]
    · iapply (Job.rest_lands a) $$ [Ha Hb]
      isplitl [Ha] <;> iassumption
    · iapply (rest_lands_all L) $$ [HL HM]
      isplitl [HL] <;> iassumption

/-- Start a list of copies: with what they lend and the semaphore at zero, they are all under way after. -/
theorem wp_startAll (sm : DmaSem sig) (L : List (Job nD τ sig Val c)) (k : Prog (TpuEff nD τ sig Val Λ .tc) α) :
    iprop(bigSepL L Job.held ∗ semVal ((c : Thread nD τ), .dma sm) 0)
      ⊢ iprop((flight sm L -∗ wp frame (wpE defs 𝒱 (c : Thread nD τ) bd) Set.univ k Q)
        -∗ wp frame (wpE defs 𝒱 (c : Thread nD τ) bd) Set.univ (startAll sm (L.map Job.cp) k) Q) := by
  have : ∀ t, Storable (upEmb : UEmb _ 𝕄) (lands L t) := fun t => by
    unfold lands Job.lands; infer_instance
  iintro ⟨HL, Hv⟩ Hk
  imod (Transfers.mixedBatch_alloc' (Lvl := ℕ) (countersEmb (U := Pipeline.UD sig nD τ)) (c : Thread nD τ) () (amts L) (lands L)
    (sm := .dma sm) (E := Set.univ)) $$ Hv with HB
  iapply (start_from 𝒱 bd sm L k L 0 rfl (Nat.zero_le _)) $$ [HL HB]
  · isplitl [HL]; · iexact HL
    iexact HB
  iintro HF
  iapply Hk
  unfold flight
  iexact HF

theorem wait_from (sm : DmaSem sig) (L : List (Job nD τ sig Val c)) (k : Prog (TpuEff nD τ sig Val Λ .tc) α) :
    ∀ (suf : List (Job nD τ sig Val c)) (j : ℕ), L.drop j = suf → j ≤ L.length →
      iprop(batch sm L L.length (Transfers.sumTo (amts L) j) ∗ ∃ W, owes (c : Thread nD τ) 0 W)
        ⊢ iprop((iprop(batch sm L L.length (Transfers.sumTo (amts L) L.length) ∗ ∃ W, owes (c : Thread nD τ) 0 W)
              -∗ wp frame (wpE defs 𝒱 (c : Thread nD τ) bd) Set.univ k Q)
          -∗ wp frame (wpE defs 𝒱 (c : Thread nD τ) bd) Set.univ (waitAll sm (suf.map Job.cp) k) Q)
  | [], j, h, hle => by
    have hj : j = L.length := Nat.le_antisymm hle (List.drop_eq_nil_iff.mp h)
    subst hj
    iintro HB Hk
    iapply Hk
    iexact HB
  | a :: suf, j, h, hle => by
    have hj : j < L.length := by
      by_contra hn
      rw [List.drop_eq_nil_of_le (Nat.le_of_not_lt hn)] at h
      exact absurd h (List.cons_ne_nil _ _).symm
    have ha : L.get ⟨j, hj⟩ = a := by
      have := List.drop_eq_getElem_cons hj
      rw [h] at this; exact (List.cons.inj this).1.symm
    have hs : L.drop (j + 1) = suf := by
      have := List.drop_eq_getElem_cons hj
      rw [h] at this; exact (List.cons.inj this).2.symm
    have hsum : Transfers.sumTo (amts L) (j + 1) = Transfers.sumTo (amts L) j + a.cp.dst.view.dmaCredit := by
      rw [Transfers.sumTo_succ _ hj, ← ha]; rfl
    iintro ⟨HB, %W, HO⟩ Hk
    iapply (Transfers.wp_waitMixedBatch countersEmb 𝒱 (c : Thread nD τ) bd () (hJ := rfl) (A := amts L) (D := lands L)
      (u := Transfers.sumTo (amts L) j) (j := L.length) (hsum ▸ sumTo_le (amts L) (j + 1) hj)) $$ [HB HO]
    · isplitl [HB] <;> iassumption
    iintro ⟨HB, HO⟩
    iapply (wait_from sm L k suf (j + 1) hs hj) $$ [HB HO]
    · isplitl [HB]
      · rw [hsum]; iexact HB
      · iexists _; iexact HO
    iexact Hk

/-- Wait for a list of copies under way: everything lent comes back, the destinations written, the semaphore
    at zero. -/
theorem wp_waitAll (sm : DmaSem sig) (L : List (Job nD τ sig Val c)) (k : Prog (TpuEff nD τ sig Val Λ .tc) α) :
    iprop(flight sm L ∗ ∃ W, owes (c : Thread nD τ) 0 W)
      ⊢ iprop((iprop(bigSepL L Job.done ∗ semVal ((c : Thread nD τ), .dma sm) 0 ∗ ∃ W, owes (c : Thread nD τ) 0 W)
            -∗ wp frame (wpE defs 𝒱 (c : Thread nD τ) bd) Set.univ k Q)
        -∗ wp frame (wpE defs 𝒱 (c : Thread nD τ) bd) Set.univ (waitAll sm (L.map Job.cp) k) Q) := by
  unfold flight
  iintro ⟨⟨HB, HR⟩, HO⟩ Hk
  iapply (wait_from 𝒱 bd sm L k L 0 rfl (Nat.zero_le _)) $$ [HB HO]
  · isplitl [HB]; · iexact HB
    iexact HO
  iintro ⟨HB, HO⟩
  imod (Transfers.mixedBatch_collect' (Lvl := ℕ) (countersEmb (U := Pipeline.UD sig nD τ)) (c : Thread nD τ) (amts_pos L) (D := lands L)) $$ HB with ⟨HD, Hv⟩
  iapply Hk
  isplitl [HD HR]
  · ihave HD' := (Entails.of_eq (show bigSep Finset.univ (lands L) = bigSepL L Job.lands from bigSep_get L Job.lands)) $$ HD
    iapply (rest_lands_all L) $$ [HR HD']
    isplitl [HR] <;> iassumption
  isplitl [Hv] <;> iassumption

end Attn

end
-- ==== Proof.State.lean ====
/-
  What is held between the steps of the kernel's schedule, slot by slot and block by block, and what each
  step of a grid point does to it.
-/
module

public import proofs.«01_k».proof.Proof.Flights

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}

local notation "𝕄" => MT nD τ sig Unit Val ℕ (Pipeline.UD sig nD τ) ℕ

/-! ## Chains over lists of lists -/

theorem bigSepL_flatMap {I J : Type} (g : I → List J) (Φ : J → sProp 𝕄) :
    ∀ l : List I, bigSepL (l.flatMap g) Φ = bigSepL l fun i => bigSepL (g i) Φ
  | [] => rfl
  | i :: l => by rw [List.flatMap_cons, bigSepL_append, bigSepL_cons', bigSepL_flatMap g Φ l]

theorem bigSepL_sep {I : Type} (Φ Ψ : I → sProp 𝕄) :
    ∀ l : List I, bigSepL l (fun i => iprop(Φ i ∗ Ψ i)) ⊣⊢ iprop(bigSepL l Φ ∗ bigSepL l Ψ)
  | [] => ⟨by
      iintro -
      isplitl <;> iempintro, by
      iintro -
      iempintro⟩
  | i :: l => by
    rw [bigSepL_cons', bigSepL_cons', bigSepL_cons']
    constructor
    · iintro ⟨⟨H1, H2⟩, HL⟩
      ihave HL := (bigSepL_sep Φ Ψ l).1 $$ HL
      icases HL with ⟨H3, H4⟩
      isplitl [H1 H3]
      · isplitl [H1] <;> iassumption
      · isplitl [H2] <;> iassumption
    · iintro ⟨⟨H1, H3⟩, H2, H4⟩
      isplitl [H1 H2]
      · isplitl [H1] <;> iassumption
      · iapply (bigSepL_sep Φ Ψ l).2 $$ [H3 H4]
        isplitl [H3] <;> iassumption

theorem found_mono {I : Type} {P : sProp 𝕄} {φ ψ : I → Prop} {R : I → sProp 𝕄} (h : ∀ f, φ f → ψ f) :
    iprop(P ∗ ∃ f, ⌜φ f⌝ ∗ R f) ⊢ iprop(P ∗ ∃ f, ⌜ψ f⌝ ∗ R f) := by
  iintro ⟨HP, %f, %hf, HR⟩
  isplitl [HP]; · iexact HP
  iexists f
  isplitr; · ipureintro; exact h f hf
  iexact HR

theorem univ16 (Φ : Fin 16 → sProp 𝕄) : bigSep Finset.univ Φ = bigSepL Bufs.heads16 Φ :=
  bigSep_univ_eq_bigSepL Bufs.heads16 (by decide) (by decide) Φ
theorem univ4 (Φ : Fin 4 → sProp 𝕄) : bigSep Finset.univ Φ = bigSepL Bufs.heads4 Φ :=
  bigSep_univ_eq_bigSepL Bufs.heads4 (by decide) (by decide) Φ

/-! ## The fixed data -/

/-- The key head that head `h` reads. -/
def kvOf (h : Fin 16) : Fin 4 := ⟨h.val / 4, by have := h.isLt; omega⟩

theorem kvOf_headsOf : ∀ (g : Fin 4), ∀ h ∈ Bufs.headsOf g, kvOf h = g := by decide

/-- The element set of one key head's whole block in a slot. -/
abbrev setK (m : Memref sig .tc .vmem SK .f32) (s : Fin 2) (g : Fin 4) := (m.access (rK 640 le_rfl s g)).set

theorem rK_subset (n : ℕ) (hn : n ≤ 640) (s : Fin 2) (g : Fin 4) : (rK n hn s g).set ⊆ (rK 640 le_rfl s g).set := by
  intro x hx
  rw [Rect.mem_set_unit] at hx ⊢
  intro a
  have := hx a
  fin_cases a <;> simp_all [Shape.size] <;> omega

theorem access_subset (m : Memref sig .tc .vmem SK .f32) (n : ℕ) (hn : n ≤ 640) (s : Fin 2) (g : Fin 4) :
    (m.access (rK n hn s g)).set ⊆ setK m s g := by
  have e : ∀ n hn, (m.access (rK n hn s g)).set = (rK n hn s g).set.map m.view.emb := fun n hn => View.set_slice m.view (rK n hn s g)
  unfold setK
  rw [e, e]
  exact Finset.map_subset_map.mpr (rK_subset n hn s g)

/-- The buffers of one run, what the arguments hold, and each block's arithmetic. -/
structure Env (nD : ℕ) (τ : Topo) (sig : RefSig) (Val : EltTy → Type) where
  B : Bufs sig
  c : Dev nD
  fq : Buf Val (B.q.view.loc (c : Thread nD τ))
  fk : Buf Val (B.k.view.loc (c : Thread nD τ))
  fv : Buf Val (B.v.view.loc (c : Thread nD τ))
  f : (i : Fin 4) → Bufs.Cells Val (win i).n

namespace Env

variable (X : Env nD τ sig Val)

open Bufs

theorem castSlab (n : ℕ) : (Mat n).ShapeCasts (Slab n) := by
  simp [Shape.ShapeCasts, Shape.numel, Fin.prod_univ_succ]
theorem castMat (n : ℕ) : (Slab n).ShapeCasts (Mat n) := (castSlab n).symm

/-- What a load of head `h`'s queries of block `i` finds. -/
def lq (i : Fin 4) (h : Fin 16) : (Slab 256).Idx → Val .f32 :=
  shapeCast (Slab 256) ((stripA X.B.q i h).view.read Val X.fq) (castSlab 256)
/-- What a load of key head `g`'s keys of window `i` finds. -/
def lk (i : Fin 4) (g : Fin 4) : (Slab (win i).n).Idx → Val .f32 :=
  shapeCast (Slab (win i).n) ((stripB X.B.k (win i) g).view.read Val X.fk) (castSlab _)
/-- What a load of key head `g`'s values of window `i` finds. -/
def lv (i : Fin 4) (g : Fin 4) : (Slab (win i).n).Idx → Val .f32 :=
  shapeCast (Slab (win i).n) ((stripB X.B.v (win i) g).view.read Val X.fv) (castSlab _)
/-- The result of head `h` on block `i`. -/
def out (i : Fin 4) (h : Fin 16) : (Slab 256).Idx → Val .f32 := X.f i h (X.lk i (kvOf h)) (X.lv i (kvOf h)) (X.lq i h)
/-- The same as rows of features. -/
def outMat (i : Fin 4) (h : Fin 16) : (Mat 256).Idx → Val .f32 := shapeCast (Mat 256) (X.out i h) (castMat 256)

/-! ## Slots and blocks -/

/-- The token of the copy of head `h` to slot `s`. -/
abbrev tokQ (s : Fin 2) (h : Fin 16) : PosShare TreeShare :=
  Transfers.shareTok fullShare 32 ⟨16 * s.val + h.val, by have := s.isLt; have := h.isLt; omega⟩
/-- The token of the copy of key head `g` to slot `s`. -/
abbrev tokK (s : Fin 2) (g : Fin 4) : PosShare TreeShare :=
  Transfers.shareTok fullShare 8 ⟨4 * s.val + g.val, by have := s.isLt; have := g.isLt; omega⟩

abbrev shQ (s : Fin 2) (h : Fin 16) : sProp 𝕄 := iprop(X.B.q.view.loc (X.c : Thread nD τ) ↦[Finset.univ]{tokQ s h} X.fq)
abbrev shK (s : Fin 2) (g : Fin 4) : sProp 𝕄 := iprop(X.B.k.view.loc (X.c : Thread nD τ) ↦[Finset.univ]{tokK s g} X.fk)
abbrev shV (s : Fin 2) (g : Fin 4) : sProp 𝕄 := iprop(X.B.v.view.loc (X.c : Thread nD τ) ↦[Finset.univ]{tokK s g} X.fv)

/-- A query or result block of a slot at contents `f`. -/
abbrev atQ (m : Memref sig .tc .vmem SQ .f32) (s : Fin 2) (h : Fin 16) (f : Buf Val (m.view.loc (X.c : Thread nD τ))) : sProp 𝕄 :=
  iprop(m.view.loc (X.c : Thread nD τ) ↦[(m.access (rQ s h)).set]{fullShare} f)
/-- A key or value block of a slot at contents `f`. -/
abbrev atK (m : Memref sig .tc .vmem SK .f32) (s : Fin 2) (g : Fin 4) (f : Buf Val (m.view.loc (X.c : Thread nD τ))) : sProp 𝕄 :=
  iprop(m.view.loc (X.c : Thread nD τ) ↦[setK m s g]{fullShare} f)
/-- One head's rows of a block of the result at contents `f`. -/
abbrev atO (i : Fin 4) (h : Fin 16) (f : Buf Val (X.B.o.view.loc (X.c : Thread nD τ))) : sProp 𝕄 :=
  iprop(X.B.o.view.loc (X.c : Thread nD τ) ↦[(X.B.o.access (rA i h)).set]{fullShare} f)

theorem set_strip (m : Memref sig .tc .hbm SA .f32) (i : Fin 4) (h : Fin 16) : (stripA m i h).view.set = (m.access (rA i h)).set :=
  View.set_reshape _ _
theorem set_slab (m : Memref sig .tc .vmem SQ .f32) (s : Fin 2) (h : Fin 16) : (slabQ m s h).view.set = (m.access (rQ s h)).set :=
  View.set_reshape _ _
theorem set_slabK (m : Memref sig .tc .vmem SK .f32) (w : Win) (s : Fin 2) (g : Fin 4) :
    (slabK m w s g).view.set = (m.access (rK w.n w.hn s g)).set :=
  View.set_reshape _ _

def jobQ (i : Fin 4) (s : Fin 2) (h : Fin 16) : Job nD τ sig Val X.c :=
  ⟨X.B.cpQ i s h, tokQ s h, Finset.univ, (X.B.qs.access (rQ s h)).set, X.fq, Finset.subset_univ _, (set_slab _ _ _).subset⟩
def jobK (i : Fin 4) (s : Fin 2) (g : Fin 4) : Job nD τ sig Val X.c :=
  ⟨X.B.cpK (win i) s g, tokK s g, Finset.univ, setK X.B.ks s g, X.fk, Finset.subset_univ _,
    (set_slabK _ _ _ _).subset.trans (access_subset _ _ _ _ _)⟩
def jobV (i : Fin 4) (s : Fin 2) (g : Fin 4) : Job nD τ sig Val X.c :=
  ⟨X.B.cpV (win i) s g, tokK s g, Finset.univ, setK X.B.vs s g, X.fv, Finset.subset_univ _,
    (set_slabK _ _ _ _).subset.trans (access_subset _ _ _ _ _)⟩
def jobO (i : Fin 4) (s : Fin 2) (F : Fin 16 → Buf Val (X.B.os.view.loc (X.c : Thread nD τ))) (h : Fin 16) : Job nD τ sig Val X.c :=
  ⟨X.B.cpO i s h, fullShare, (X.B.os.access (rQ s h)).set, (X.B.o.access (rA i h)).set, F h, (set_slab _ _ _).subset,
    (set_strip _ _ _).subset⟩

def jobsIn (i : Fin 4) (s : Fin 2) : List (Job nD τ sig Val X.c) :=
  heads16.map (X.jobQ i s) ++ heads4.flatMap fun g => [X.jobK i s g, X.jobV i s g]
def jobsOut (i : Fin 4) (s : Fin 2) (F : Fin 16 → Buf Val (X.B.os.view.loc (X.c : Thread nD τ))) : List (Job nD τ sig Val X.c) :=
  heads16.map (X.jobO i s F)

/-- A slot of the buffers copied into, free to be copied into. -/
def inFree (s : Fin 2) : sProp 𝕄 :=
  iprop(bigSepL heads16 (fun h => iprop(X.shQ s h ∗ ∃ f, X.atQ X.B.qs s h f))
    ∗ bigSepL heads4 (fun g => iprop((X.shK s g ∗ ∃ f, X.atK X.B.ks s g f) ∗ X.shV s g ∗ ∃ f, X.atK X.B.vs s g f)))
/-- The same slot holding what block `i` reads. -/
def inReady (i : Fin 4) (s : Fin 2) : sProp 𝕄 :=
  iprop(bigSepL heads16 (fun h => iprop(X.shQ s h ∗ ∃ f, ⌜(X.B.qs.access (rQ s h)).read Val f = X.lq i h⌝ ∗ X.atQ X.B.qs s h f))
    ∗ bigSepL heads4 (fun g => iprop(
        (X.shK s g ∗ ∃ f, ⌜(X.B.ks.access (rK (win i).n (win i).hn s g)).read Val f = X.lk i g⌝ ∗ X.atK X.B.ks s g f)
        ∗ X.shV s g ∗ ∃ f, ⌜(X.B.vs.access (rK (win i).n (win i).hn s g)).read Val f = X.lv i g⌝ ∗ X.atK X.B.vs s g f)))
/-- Block `i`'s copies in, under way to slot `s`. -/
def inFl (i : Fin 4) (s : Fin 2) : sProp 𝕄 := flight (X.B.semIn s) (X.jobsIn i s)
abbrev semI (s : Fin 2) : sProp 𝕄 := semVal ((X.c : Thread nD τ), .dma (X.B.semIn s)) 0
abbrev semO (s : Fin 2) : sProp 𝕄 := semVal ((X.c : Thread nD τ), .dma (X.B.semOut s)) 0

/-- A slot of the result blocks, free. -/
def outFree (s : Fin 2) : sProp 𝕄 := bigSepL heads16 fun h => iprop(∃ f, X.atQ X.B.os s h f)
/-- The same slot holding block `i`'s results. -/
def outReady (i : Fin 4) (s : Fin 2) : sProp 𝕄 :=
  bigSepL heads16 fun h => iprop(∃ f, ⌜(X.B.os.access (rQ s h)).read Val f = X.out i h⌝ ∗ X.atQ X.B.os s h f)
/-- Block `i`'s results under way from slot `s`. -/
def outFl (i : Fin 4) (s : Fin 2) : sProp 𝕄 :=
  iprop(∃ F : Fin 16 → Buf Val (X.B.os.view.loc (X.c : Thread nD τ)),
    ⌜∀ h, (X.B.os.access (rQ s h)).read Val (F h) = X.out i h⌝ ∗ flight (X.B.semOut s) (X.jobsOut i s F))
/-- Block `i` of the result, not yet written. -/
def blkFree (i : Fin 4) : sProp 𝕄 := bigSepL heads16 fun h => iprop(∃ f, X.atO i h f)
/-- Block `i` of the result, written. -/
def blkDone (i : Fin 4) : sProp 𝕄 :=
  bigSepL heads16 fun h => iprop(∃ f, ⌜(stripA X.B.o i h).view.read Val f = X.outMat i h⌝ ∗ X.atO i h f)

/-- What the core owes: nothing. -/
abbrev ows : sProp 𝕄 := iprop(∃ W, owes (X.c : Thread nD τ) 0 W)

/-! ## The steps -/

variable [∀ e, Nonempty (Val e)] {defs : Defs nD τ sig Val Λ} (𝒱 : Variants) (bd : Option 𝒱.V) {α : Type}
  {Q : α → sProp (MT nD τ sig Unit Val ℕ (Pipeline.UD sig nD τ) ℕ)} (k : Prog (TpuEff nD τ sig Val Λ .tc) α)

theorem startIn_spec (i : Fin 4) (s : Fin 2) :
    iprop(X.inFree s ∗ X.semI s) ⊢ iprop((X.inFl i s -∗ wp frame (wpE defs 𝒱 (X.c : Thread nD τ) bd) Set.univ k Q)
      -∗ wp frame (wpE defs 𝒱 (X.c : Thread nD τ) bd) Set.univ (X.B.startIn i s k) Q) := by
  have h : X.inFree s = bigSepL (X.jobsIn i s) Job.held := by
    unfold jobsIn inFree
    rw [bigSepL_append, bigSepL_map, bigSepL_flatMap]
    rfl
  rw [h]
  exact wp_startAll 𝒱 bd (X.B.semIn s) (X.jobsIn i s) k

theorem read_slab (m : Memref sig .tc .vmem SQ .f32) (s : Fin 2) (h : Fin 16) (f : m.view.ty.Contents Val) :
    (slabQ m s h).view.read Val f = shapeCast (Mat 256) ((m.access (rQ s h)).read Val f) (castMat 256) := rfl

theorem waitIn_spec (i : Fin 4) (s : Fin 2) :
    iprop(X.inFl i s ∗ X.ows) ⊢ iprop((iprop(X.inReady i s ∗ X.semI s ∗ X.ows) -∗ wp frame (wpE defs 𝒱 (X.c : Thread nD τ) bd) Set.univ k Q)
      -∗ wp frame (wpE defs 𝒱 (X.c : Thread nD τ) bd) Set.univ (X.B.waitIn i s k) Q) := by
  have h : bigSepL (X.jobsIn i s) Job.done ⊢ X.inReady i s := by
    unfold jobsIn inReady
    rw [bigSepL_append, bigSepL_map, bigSepL_flatMap]
    refine BIClass.sep_mono (bigSepL_mono fun h _ => ?_) (bigSepL_mono fun g _ => ?_)
    · refine found_mono fun f e => ?_
      unfold lq
      rw [← show (slabQ X.B.qs s h).view.read Val f = (stripA X.B.q i h).view.read Val X.fq from e]
      exact (shapeCast_shapeCast _ (castMat 256) (castSlab 256)).symm
    · refine BIClass.sep_mono ?_ ?_
      · refine found_mono fun f e => ?_
        unfold lk
        rw [← show (slabK X.B.ks (win i) s g).view.read Val f = (stripB X.B.k (win i) g).view.read Val X.fk from e]
        exact (shapeCast_shapeCast _ (castMat _) (castSlab _)).symm
      · refine found_mono fun f e => ?_
        unfold lv
        rw [← show (slabK X.B.vs (win i) s g).view.read Val f = (stripB X.B.v (win i) g).view.read Val X.fv from e]
        exact (shapeCast_shapeCast _ (castMat _) (castSlab _)).symm
  refine (wp_waitAll 𝒱 bd (X.B.semIn s) (X.jobsIn i s) k).trans (wand_mono_left (wand_mono_left (BIClass.sep_mono h .rfl)))

theorem startOut_spec (i : Fin 4) (s : Fin 2) :
    iprop(X.outReady i s ∗ X.blkFree i ∗ X.semO s) ⊢ iprop((X.outFl i s -∗ wp frame (wpE defs 𝒱 (X.c : Thread nD τ) bd) Set.univ k Q)
      -∗ wp frame (wpE defs 𝒱 (X.c : Thread nD τ) bd) Set.univ (X.B.startOut i s k) Q) := by
  have h : X.outReady i s ⊢ iprop(∃ F : Fin 16 → Buf Val (X.B.os.view.loc (X.c : Thread nD τ)),
      ⌜∀ h, (X.B.os.access (rQ s h)).read Val (F h) = X.out i h⌝ ∗ bigSepL heads16 fun h => X.atQ X.B.os s h (F h)) := by
    unfold outReady
    rw [← univ16]
    refine (bigSep_exists_pi Finset.univ fun h f => iprop(⌜(X.B.os.access (rQ s h)).read Val f = X.out i h⌝ ∗ X.atQ X.B.os s h f)).trans ?_
    refine Laws.exists_mono fun F => ?_
    rw [← univ16]
    refine (bigSep_pure_sep Finset.univ _ _).trans (BIClass.sep_mono (Laws.pure_mono fun e h => e h (Finset.mem_univ h)) .rfl)
  iintro ⟨HR, HO, Hs⟩ Hk
  ihave HR := h $$ HR
  icases HR with ⟨%F, %hF, HR⟩
  iapply (wp_startAll 𝒱 bd (X.B.semOut s) (X.jobsOut i s F) k) $$ [HR HO Hs]
  · isplitr [Hs]
    · unfold jobsOut
      rw [bigSepL_map]
      iapply (bigSepL_sep _ _ heads16).2 $$ [HR HO]
      isplitl [HR]; · iexact HR
      unfold blkFree
      iexact HO
    · iexact Hs
  iintro HF
  iapply Hk
  unfold outFl
  iexists F
  isplitr; · ipureintro; exact hF
  iexact HF

theorem waitOut_spec (i : Fin 4) (s : Fin 2) :
    iprop(X.outFl i s ∗ X.ows) ⊢ iprop((iprop(X.outFree s ∗ X.blkDone i ∗ X.semO s ∗ X.ows) -∗ wp frame (wpE defs 𝒱 (X.c : Thread nD τ) bd) Set.univ k Q)
      -∗ wp frame (wpE defs 𝒱 (X.c : Thread nD τ) bd) Set.univ (X.B.waitOut i s k) Q) := by
  unfold outFl
  iintro ⟨⟨%F, %hF, HF⟩, HO⟩ Hk
  have h : bigSepL (X.jobsOut i s F) Job.done ⊢ iprop(X.outFree s ∗ X.blkDone i) := by
    unfold jobsOut outFree blkDone
    rw [bigSepL_map]
    refine (bigSepL_mono fun h _ => ?_).trans (bigSepL_sep _ _ heads16).1
    refine (found_mono (P := X.atQ X.B.os s h (F h)) fun f e => ?_).trans (BIClass.sep_mono (BIClass.exists_intro (Φ := fun f => X.atQ X.B.os s h f) (F h)) .rfl)
    refine (show (stripA X.B.o i h).view.read Val f = (slabQ X.B.os s h).view.read Val (F h) from e).trans ?_
    rw [read_slab, hF]
    rfl
  iapply (wp_waitAll 𝒱 bd (X.B.semOut s) (X.jobsOut i s F) k) $$ [HF HO]
  · isplitl [HF] <;> iassumption
  iintro ⟨HD, Hs, HO⟩
  ihave HD := h $$ HD
  icases HD with ⟨H1, H2⟩
  iapply Hk
  isplitl [H1]; · iexact H1
  isplitl [H2]; · iexact H2
  isplitl [Hs] <;> iassumption

/-- One head group: the queries are read, the results' blocks are written. -/
theorem runHeads_spec (i : Fin 4) (s : Fin 2) (g : Fin 4) : ∀ hs : List (Fin 16), (∀ h ∈ hs, kvOf h = g) →
    iprop(bigSepL hs (fun h => iprop(X.shQ s h ∗ ∃ f, ⌜(X.B.qs.access (rQ s h)).read Val f = X.lq i h⌝ ∗ X.atQ X.B.qs s h f))
        ∗ bigSepL hs (fun h => iprop(∃ f, X.atQ X.B.os s h f)))
      ⊢ iprop((iprop(bigSepL hs (fun h => iprop(X.shQ s h ∗ ∃ f, X.atQ X.B.qs s h f))
            ∗ bigSepL hs (fun h => iprop(∃ f, ⌜(X.B.os.access (rQ s h)).read Val f = X.out i h⌝ ∗ X.atQ X.B.os s h f)))
          -∗ wp frame (wpE defs 𝒱 (X.c : Thread nD τ) bd) Set.univ k Q)
        -∗ wp frame (wpE defs 𝒱 (X.c : Thread nD τ) bd) Set.univ (X.B.runHeads (win i) s (X.f i) (X.lk i g) (X.lv i g) hs k) Q)
  | [], _ => by
    iintro - Hk
    iapply Hk
    isplitl <;> iempintro
  | h :: hs, hg => by
    rw [bigSepL_cons', bigSepL_cons', bigSepL_cons', bigSepL_cons']
    iintro ⟨⟨⟨Hsh, ⟨%fq, %hq, Hq⟩⟩, Hqs⟩, ⟨%fo, Ho⟩, Hos⟩ Hk
    iapply (wp_load_rect 𝒱 (X.c : Thread nD τ) bd Set.univ (m := X.B.qs) (r := rQ s h) (Finset.Subset.refl _)) $$ Hq
    iintro Hq
    iapply (wp_load_rect 𝒱 (X.c : Thread nD τ) bd Set.univ (m := X.B.os) (r := rQ s h) (Finset.Subset.refl _)) $$ Ho
    iintro Ho
    iapply (wp_store 𝒱 (X.c : Thread nD τ) bd Set.univ (m := X.B.os) (r := rQ s h) (Mk := Finset.univ) (S := (X.B.os.access (rQ s h)).set) (Finset.Subset.refl _)) $$ Ho
    iintro Ho
    iapply (runHeads_spec i s g hs fun h' m => hg h' (List.mem_cons_of_mem _ m)) $$ [Hqs Hos]
    · isplitl [Hqs] <;> iassumption
    iintro ⟨Hqs, Hos⟩
    iapply Hk
    isplitl [Hsh Hq Hqs]
    · isplitr [Hqs]
      · isplitl [Hsh]; · iexact Hsh
        iexists fq
        iexact Hq
      · iexact Hqs
    · isplitl [Ho]
      · iexists _
        isplitr
        rotate_left
        · iexact Ho
        · ipureintro
          refine (View.read_write_univ _ _).trans ?_
          unfold out
          rw [hq, hg h (List.mem_cons_self ..)]
      · iexact Hos

theorem runAll_from (i : Fin 4) (s : Fin 2) : ∀ gs : List (Fin 4),
    iprop(bigSepL gs (fun g => iprop(
          (X.shK s g ∗ ∃ f, ⌜(X.B.ks.access (rK (win i).n (win i).hn s g)).read Val f = X.lk i g⌝ ∗ X.atK X.B.ks s g f)
          ∗ X.shV s g ∗ ∃ f, ⌜(X.B.vs.access (rK (win i).n (win i).hn s g)).read Val f = X.lv i g⌝ ∗ X.atK X.B.vs s g f))
        ∗ bigSepL gs (fun g => bigSepL (headsOf g) fun h => iprop(X.shQ s h ∗ ∃ f, ⌜(X.B.qs.access (rQ s h)).read Val f = X.lq i h⌝ ∗ X.atQ X.B.qs s h f))
        ∗ bigSepL gs (fun g => bigSepL (headsOf g) fun h => iprop(∃ f, X.atQ X.B.os s h f)))
      ⊢ iprop((iprop(bigSepL gs (fun g => iprop((X.shK s g ∗ ∃ f, X.atK X.B.ks s g f) ∗ X.shV s g ∗ ∃ f, X.atK X.B.vs s g f))
            ∗ bigSepL gs (fun g => bigSepL (headsOf g) fun h => iprop(X.shQ s h ∗ ∃ f, X.atQ X.B.qs s h f))
            ∗ bigSepL gs (fun g => bigSepL (headsOf g) fun h => iprop(∃ f, ⌜(X.B.os.access (rQ s h)).read Val f = X.out i h⌝ ∗ X.atQ X.B.os s h f)))
          -∗ wp frame (wpE defs 𝒱 (X.c : Thread nD τ) bd) Set.univ k Q)
        -∗ wp frame (wpE defs 𝒱 (X.c : Thread nD τ) bd) Set.univ (X.B.runAll (win i) s (X.f i) gs k) Q)
  | [] => by
    iintro - Hk
    iapply Hk
    isplitl; · iempintro
    isplitl <;> iempintro
  | g :: gs => by
    simp only [bigSepL_cons']
    iintro ⟨⟨⟨⟨Hsk, ⟨%fk, %hk, HK⟩⟩, Hsv, ⟨%fv, %hv, HV⟩⟩, Hkv⟩, ⟨Hq, Hqs⟩, ⟨Ho, Hos⟩⟩ Hk
    iapply (wp_load_rect 𝒱 (X.c : Thread nD τ) bd Set.univ (m := X.B.ks) (r := rK (win i).n (win i).hn s g) (access_subset _ _ _ _ _)) $$ HK
    iintro HK
    iapply (wp_load_rect 𝒱 (X.c : Thread nD τ) bd Set.univ (m := X.B.vs) (r := rK (win i).n (win i).hn s g) (access_subset _ _ _ _ _)) $$ HV
    iintro HV
    rw [hk, hv]
    iapply (runHeads_spec X 𝒱 bd (X.B.runAll (win i) s (X.f i) gs k) i s g (headsOf g) (kvOf_headsOf g)) $$ [Hq Ho]
    · isplitl [Hq] <;> iassumption
    iintro ⟨Hq, Ho⟩
    iapply (runAll_from i s gs) $$ [Hkv Hqs Hos]
    · isplitl [Hkv]; · iexact Hkv
      isplitl [Hqs] <;> iassumption
    iintro ⟨Hkv, Hqs, Hos⟩
    iapply Hk
    isplitl [Hsk HK Hsv HV Hkv]
    · isplitr [Hkv]
      · isplitl [Hsk HK]
        · isplitl [Hsk]; · iexact Hsk
          iexists fk
          iexact HK
        · isplitl [Hsv]; · iexact Hsv
          iexists fv
          iexact HV
      · iexact Hkv
    · isplitl [Hq Hqs]
      · isplitl [Hq] <;> iassumption
      · isplitl [Ho] <;> iassumption

theorem byGroup (Φ : Fin 16 → sProp 𝕄) : bigSepL heads16 Φ = bigSepL heads4 fun g => bigSepL (headsOf g) Φ :=
  (congrArg (fun l => bigSepL l Φ) (show heads16 = heads4.flatMap headsOf from rfl)).trans (bigSepL_flatMap headsOf Φ heads4)

/-- The arithmetic of a block on a slot that is ready. -/
theorem runAll_spec (i : Fin 4) (s : Fin 2) :
    iprop(X.inReady i s ∗ X.outFree s) ⊢ iprop((iprop(X.inFree s ∗ X.outReady i s) -∗ wp frame (wpE defs 𝒱 (X.c : Thread nD τ) bd) Set.univ k Q)
      -∗ wp frame (wpE defs 𝒱 (X.c : Thread nD τ) bd) Set.univ (X.B.runAll (win i) s (X.f i) heads4 k) Q) := by
  unfold inReady outFree inFree outReady
  simp only [byGroup]
  iintro ⟨⟨Hq, Hkv⟩, Ho⟩ Hk
  iapply (runAll_from X 𝒱 bd k i s heads4) $$ [Hkv Hq Ho]
  · isplitl [Hkv]; · iexact Hkv
    isplitl [Hq] <;> iassumption
  iintro ⟨Hkv, Hq, Ho⟩
  iapply Hk
  isplitr [Ho]
  · isplitl [Hq] <;> iassumption
  · iexact Ho

/-! ## The grid points -/

/-- Held at the start of each grid point, and at the end. -/
def at0 : sProp 𝕄 :=
  iprop((X.inFree 0 ∗ X.inFree 1 ∗ X.semI 0 ∗ X.semI 1) ∗ (X.outFree 0 ∗ X.outFree 1 ∗ X.semO 0 ∗ X.semO 1)
    ∗ X.blkFree 0 ∗ X.blkFree 1 ∗ X.blkFree 2 ∗ X.blkFree 3)
def at1 : sProp 𝕄 :=
  iprop((X.inFl 1 1 ∗ X.inFree 0 ∗ X.semI 0) ∗ (X.outFl 0 0 ∗ X.outFree 1 ∗ X.semO 1) ∗ X.blkFree 1 ∗ X.blkFree 2 ∗ X.blkFree 3)
def at2 : sProp 𝕄 :=
  iprop((X.inFl 2 0 ∗ X.inFree 1 ∗ X.semI 1) ∗ (X.outFl 0 0 ∗ X.outFl 1 1) ∗ X.blkFree 2 ∗ X.blkFree 3)
def at3 : sProp 𝕄 :=
  iprop((X.inFl 3 1 ∗ X.inFree 0 ∗ X.semI 0) ∗ (X.outFl 2 0 ∗ X.outFl 1 1) ∗ X.blkDone 0 ∗ X.blkFree 3)
def at4 : sProp 𝕄 :=
  iprop((X.inFree 0 ∗ X.inFree 1 ∗ X.semI 0 ∗ X.semI 1) ∗ (X.outFree 0 ∗ X.outFree 1 ∗ X.semO 0 ∗ X.semO 1)
    ∗ X.blkDone 0 ∗ X.blkDone 1 ∗ X.blkDone 2 ∗ X.blkDone 3)

variable {R : PUnit → sProp (MT nD τ sig Unit Val ℕ (Pipeline.UD sig nD τ) ℕ)}

theorem point0_spec : iprop(X.at0 ∗ X.ows)
    ⊢ iprop((iprop(X.at1 ∗ X.ows) -∗ R ⟨⟩) -∗ wp frame (wpE defs 𝒱 (X.c : Thread nD τ) bd) Set.univ (X.B.point0 (X.f 0)) R) := by
  unfold at0 at1 point0
  iintro ⟨⟨⟨I0, I1, S0, S1⟩, ⟨O0, O1, T0, T1⟩, B0, B1, B2, B3⟩, HO⟩ Hk
  iapply (startIn_spec X 𝒱 bd _ 0 0) $$ [I0 S0]
  · isplitl [I0] <;> iassumption
  iintro F0
  iapply (startIn_spec X 𝒱 bd _ 1 1) $$ [I1 S1]
  · isplitl [I1] <;> iassumption
  iintro F1
  iapply (waitIn_spec X 𝒱 bd _ 0 0) $$ [F0 HO]
  · isplitl [F0] <;> iassumption
  iintro ⟨I0, S0, HO⟩
  iapply (runAll_spec X 𝒱 bd _ 0 0) $$ [I0 O0]
  · isplitl [I0] <;> iassumption
  iintro ⟨I0, O0⟩
  iapply (startOut_spec X 𝒱 bd _ 0 0) $$ [O0 B0 T0]
  · isplitl [O0]; · iexact O0
    isplitl [B0] <;> iassumption
  iintro O0
  rw [wp_ret]
  imodintro
  iapply Hk
  isplitr [HO]
  · isplitl [F1 I0 S0]
    · isplitl [F1]; · iexact F1
      isplitl [I0] <;> iassumption
    isplitl [O0 O1 T1]
    · isplitl [O0]; · iexact O0
      isplitl [O1] <;> iassumption
    isplitl [B1]; · iexact B1
    isplitl [B2] <;> iassumption
  · iexact HO

theorem point1_spec : iprop(X.at1 ∗ X.ows)
    ⊢ iprop((iprop(X.at2 ∗ X.ows) -∗ R ⟨⟩) -∗ wp frame (wpE defs 𝒱 (X.c : Thread nD τ) bd) Set.univ (X.B.point1 (X.f 1)) R) := by
  unfold at1 at2 point1
  iintro ⟨⟨⟨F1, I0, S0⟩, ⟨O0, O1, T1⟩, B1, B2, B3⟩, HO⟩ Hk
  iapply (startIn_spec X 𝒱 bd _ 2 0) $$ [I0 S0]
  · isplitl [I0] <;> iassumption
  iintro F2
  iapply (waitIn_spec X 𝒱 bd _ 1 1) $$ [F1 HO]
  · isplitl [F1] <;> iassumption
  iintro ⟨I1, S1, HO⟩
  iapply (runAll_spec X 𝒱 bd _ 1 1) $$ [I1 O1]
  · isplitl [I1] <;> iassumption
  iintro ⟨I1, O1⟩
  iapply (startOut_spec X 𝒱 bd _ 1 1) $$ [O1 B1 T1]
  · isplitl [O1]; · iexact O1
    isplitl [B1] <;> iassumption
  iintro O1
  rw [wp_ret]
  imodintro
  iapply Hk
  isplitr [HO]
  · isplitl [F2 I1 S1]
    · isplitl [F2]; · iexact F2
      isplitl [I1] <;> iassumption
    isplitl [O0 O1]
    · isplitl [O0] <;> iassumption
    isplitl [B2] <;> iassumption
  · iexact HO

theorem point2_spec : iprop(X.at2 ∗ X.ows)
    ⊢ iprop((iprop(X.at3 ∗ X.ows) -∗ R ⟨⟩) -∗ wp frame (wpE defs 𝒱 (X.c : Thread nD τ) bd) Set.univ (X.B.point2 (X.f 2)) R) := by
  unfold at2 at3 point2
  iintro ⟨⟨⟨F2, I1, S1⟩, ⟨O0, O1⟩, B2, B3⟩, HO⟩ Hk
  iapply (startIn_spec X 𝒱 bd _ 3 1) $$ [I1 S1]
  · isplitl [I1] <;> iassumption
  iintro F3
  iapply (waitOut_spec X 𝒱 bd _ 0 0) $$ [O0 HO]
  · isplitl [O0] <;> iassumption
  iintro ⟨O0, D0, T0, HO⟩
  iapply (waitIn_spec X 𝒱 bd _ 2 0) $$ [F2 HO]
  · isplitl [F2] <;> iassumption
  iintro ⟨I0, S0, HO⟩
  iapply (runAll_spec X 𝒱 bd _ 2 0) $$ [I0 O0]
  · isplitl [I0] <;> iassumption
  iintro ⟨I0, O0⟩
  iapply (startOut_spec X 𝒱 bd _ 2 0) $$ [O0 B2 T0]
  · isplitl [O0]; · iexact O0
    isplitl [B2] <;> iassumption
  iintro O0
  rw [wp_ret]
  imodintro
  iapply Hk
  isplitr [HO]
  · isplitl [F3 I0 S0]
    · isplitl [F3]; · iexact F3
      isplitl [I0] <;> iassumption
    isplitl [O0 O1]
    · isplitl [O0] <;> iassumption
    isplitl [D0] <;> iassumption
  · iexact HO

theorem point3_spec : iprop(X.at3 ∗ X.ows)
    ⊢ iprop((iprop(X.at4 ∗ X.ows) -∗ R ⟨⟩) -∗ wp frame (wpE defs 𝒱 (X.c : Thread nD τ) bd) Set.univ (X.B.point3 (X.f 3)) R) := by
  unfold at3 at4 point3
  iintro ⟨⟨⟨F3, I0, S0⟩, ⟨O0, O1⟩, D0, B3⟩, HO⟩ Hk
  iapply (waitOut_spec X 𝒱 bd _ 1 1) $$ [O1 HO]
  · isplitl [O1] <;> iassumption
  iintro ⟨O1, D1, T1, HO⟩
  iapply (waitIn_spec X 𝒱 bd _ 3 1) $$ [F3 HO]
  · isplitl [F3] <;> iassumption
  iintro ⟨I1, S1, HO⟩
  iapply (runAll_spec X 𝒱 bd _ 3 1) $$ [I1 O1]
  · isplitl [I1] <;> iassumption
  iintro ⟨I1, O1⟩
  iapply (startOut_spec X 𝒱 bd _ 3 1) $$ [O1 B3 T1]
  · isplitl [O1]; · iexact O1
    isplitl [B3] <;> iassumption
  iintro O1
  iapply (waitOut_spec X 𝒱 bd _ 2 0) $$ [O0 HO]
  · isplitl [O0] <;> iassumption
  iintro ⟨O0, D2, T0, HO⟩
  iapply (waitOut_spec X 𝒱 bd _ 3 1) $$ [O1 HO]
  · isplitl [O1] <;> iassumption
  iintro ⟨O1, D3, T1, HO⟩
  rw [wp_ret]
  imodintro
  iapply Hk
  isplitr [HO]
  · isplitl [I0 I1 S0 S1]
    · isplitl [I0]; · iexact I0
      isplitl [I1]; · iexact I1
      isplitl [S0] <;> iassumption
    isplitl [O0 O1 T0 T1]
    · isplitl [O0]; · iexact O0
      isplitl [O1]; · iexact O1
      isplitl [T0] <;> iassumption
    isplitl [D0]; · iexact D0
    isplitl [D1]; · iexact D1
    isplitl [D2] <;> iassumption
  · iexact HO

end Env

end Attn

end
-- ==== Proof.Ends.lean ====
/-
  From whole buffers to the slots and blocks the schedule holds, and back: the arguments dealt into one share
  per copy, every scratch buffer and the result cut into the pieces the copies move.
-/
module

public import proofs.«01_k».proof.Proof.State
public import Idealize.ShloMosaic.Lib.Ring.WriteBehind

@[expose] public section

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => MT nD τ sig Unit Val ℕ (Pipeline.UD sig nD τ) ℕ

open Bufs

/-! ## Families over slots and heads -/

theorem univ2x16 (Φ : Fin 2 × Fin 16 → sProp 𝕄) :
    bigSep Finset.univ Φ = iprop(bigSepL heads16 (fun h => Φ (0, h)) ∗ bigSepL heads16 (fun h => Φ (1, h))) := by
  rw [bigSep_univ_prod, bigSep_univ_eq_bigSepL [0, 1] (by decide) (by decide)]
  simp only [univ16]
  rfl
theorem univ2x4 (Φ : Fin 2 × Fin 4 → sProp 𝕄) :
    bigSep Finset.univ Φ = iprop(bigSepL heads4 (fun g => Φ (0, g)) ∗ bigSepL heads4 (fun g => Φ (1, g))) := by
  rw [bigSep_univ_prod, bigSep_univ_eq_bigSepL [0, 1] (by decide) (by decide)]
  simp only [univ4]
  rfl
theorem univ4x16 (Φ : Fin 4 × Fin 16 → sProp 𝕄) :
    bigSep Finset.univ Φ = iprop(bigSepL heads16 (fun h => Φ (0, h)) ∗ bigSepL heads16 (fun h => Φ (1, h))
      ∗ bigSepL heads16 (fun h => Φ (2, h)) ∗ bigSepL heads16 (fun h => Φ (3, h))) := by
  rw [bigSep_univ_prod, bigSep_univ_eq_bigSepL [0, 1, 2, 3] (by decide) (by decide)]
  simp only [univ16]
  rfl

/-- Two rectangles of one view apart on an axis are disjoint. -/
theorem apart {s : Shape} {e : EltTy} {sp : Space} (m : Memref sig .tc sp s e) (r r' : Rect s) (h : Disjoint r.set r'.set) :
    Disjoint (m.access r).set (m.access r').set := by
  have e : ∀ r, (m.access r).set = r.set.map m.view.emb := fun r => View.set_slice m.view r
  rw [e, e]
  exact (Finset.disjoint_map _).mpr h

theorem apartQ (m : Memref sig .tc .vmem SQ .f32) (p p' : Fin 2 × Fin 16) (h : p ≠ p') :
    Disjoint (m.access (rQ p.1 p.2)).set (m.access (rQ p'.1 p'.2)).set := by
  refine apart m _ _ ?_
  rcases Decidable.em (p.1 = p'.1) with e | e
  · have : p.2 ≠ p'.2 := fun e' => h (Prod.ext e e')
    exact Rect.unit_disjoint 1 (by have := Fin.val_ne_of_ne this; simp [Slab, Shape.size]; omega)
  · exact Rect.unit_disjoint 0 (by have := Fin.val_ne_of_ne e; simp [Slab, Shape.size]; omega)
theorem apartK (m : Memref sig .tc .vmem SK .f32) (p p' : Fin 2 × Fin 4) (h : p ≠ p') :
    Disjoint (setK m p.1 p.2) (setK m p'.1 p'.2) := by
  refine apart m _ _ ?_
  rcases Decidable.em (p.1 = p'.1) with e | e
  · have : p.2 ≠ p'.2 := fun e' => h (Prod.ext e e')
    exact Rect.unit_disjoint 1 (by have := Fin.val_ne_of_ne this; simp [Slab, Shape.size]; omega)
  · exact Rect.unit_disjoint 0 (by have := Fin.val_ne_of_ne e; simp [Slab, Shape.size]; omega)
theorem apartO (m : Memref sig .tc .hbm SA .f32) (p p' : Fin 4 × Fin 16) (h : p ≠ p') :
    Disjoint (m.access (rA p.1 p.2)).set (m.access (rA p'.1 p'.2)).set := by
  refine apart m _ _ ?_
  rcases Decidable.em (p.1 = p'.1) with e | e
  · have : p.2 ≠ p'.2 := fun e' => h (Prod.ext e e')
    exact Rect.unit_disjoint 1 (by have := Fin.val_ne_of_ne this; simp [Strip, Shape.size]; omega)
  · exact Rect.unit_disjoint 0 (by have := Fin.val_ne_of_ne e; simp [Strip, Shape.size]; omega)

namespace Env

variable (X : Env nD τ sig Val)

/-! ## Shares of the arguments -/

theorem dealQ : (X.B.q.view.loc (X.c : Thread nD τ) ↦{fullShare} X.fq : sProp 𝕄)
    ⊣⊢ iprop((X.B.q.view.loc (X.c : Thread nD τ) ↦{Transfers.shareDrop fullShare 32} X.fq)
      ∗ bigSepL heads16 (X.shQ 0) ∗ bigSepL heads16 (X.shQ 1)) := by
  have h := Transfers.pointsTo_toks (Ix := Unit) (Name := ℕ) (U := Pipeline.UD sig nD τ) (Lvl := ℕ)
    (ℓ := X.B.q.view.loc (X.c : Thread nD τ)) (S := Finset.univ) (f := X.fq) fullShare 32
  rw [bigSep_univ_eq_bigSepL ((heads16.map fun h => (⟨16 * (0 : Fin 2).val + h.val, by have := h.isLt; simp; omega⟩ : Fin 32))
    ++ heads16.map fun h => (⟨16 * (1 : Fin 2).val + h.val, by have := h.isLt; simp; omega⟩ : Fin 32)) (by decide) (by decide),
    bigSepL_append, bigSepL_map, bigSepL_map] at h
  exact h
theorem deal8 {ℓ : Loc nD τ sig} (f : Buf Val ℓ) : (ℓ ↦{fullShare} f : sProp 𝕄)
    ⊣⊢ iprop((ℓ ↦{Transfers.shareDrop fullShare 8} f)
      ∗ bigSepL heads4 (fun g => ℓ ↦[Finset.univ]{tokK 0 g} f) ∗ bigSepL heads4 (fun g => ℓ ↦[Finset.univ]{tokK 1 g} f)) := by
  have h := Transfers.pointsTo_toks (Ix := Unit) (Name := ℕ) (U := Pipeline.UD sig nD τ) (Lvl := ℕ)
    (ℓ := ℓ) (S := Finset.univ) (f := f) fullShare 8
  rw [bigSep_univ_eq_bigSepL ((heads4.map fun h => (⟨4 * (0 : Fin 2).val + h.val, by have := h.isLt; simp; omega⟩ : Fin 8))
    ++ heads4.map fun h => (⟨4 * (1 : Fin 2).val + h.val, by have := h.isLt; simp; omega⟩ : Fin 8)) (by decide) (by decide),
    bigSepL_append, bigSepL_map, bigSepL_map] at h
  exact h

/-! ## Pieces of the scratch buffers and the result -/

def spareQ (m : Memref sig .tc .vmem SQ .f32) : sProp 𝕄 :=
  iprop(∃ f, m.view.loc (X.c : Thread nD τ) ↦[Finset.univ \ Finset.univ.biUnion fun p : Fin 2 × Fin 16 => (m.access (rQ p.1 p.2)).set]{fullShare} f)
def spareK (m : Memref sig .tc .vmem SK .f32) : sProp 𝕄 :=
  iprop(∃ f, m.view.loc (X.c : Thread nD τ) ↦[Finset.univ \ Finset.univ.biUnion fun p : Fin 2 × Fin 4 => setK m p.1 p.2]{fullShare} f)
def spareO : sProp 𝕄 :=
  iprop(∃ f, X.B.o.view.loc (X.c : Thread nD τ) ↦[Finset.univ \ Finset.univ.biUnion fun p : Fin 4 × Fin 16 => (X.B.o.access (rA p.1 p.2)).set]{fullShare} f)

theorem piecesQ (m : Memref sig .tc .vmem SQ .f32) : (iprop(∃ f, m.view.loc (X.c : Thread nD τ) ↦{fullShare} f) : sProp 𝕄)
    ⊣⊢ iprop((bigSepL heads16 (fun h => iprop(∃ f, X.atQ m 0 h f)) ∗ bigSepL heads16 (fun h => iprop(∃ f, X.atQ m 1 h f))) ∗ X.spareQ m) := by
  have h1 := Ring.pieces_split_spare (Ix := Unit) (Name := ℕ) (U := Pipeline.UD sig nD τ) (Lvl := ℕ) (q := fullShare) (ℓ := m.view.loc (X.c : Thread nD τ))
    (fun p : Fin 2 × Fin 16 => (m.access (rQ p.1 p.2)).set) (apartQ m)
    (fun p f => X.atQ m p.1 p.2 f) fun _ _ => rfl
  have h2 := Ring.pieces_join_spare (Ix := Unit) (Name := ℕ) (U := Pipeline.UD sig nD τ) (Lvl := ℕ) (q := fullShare) (ℓ := m.view.loc (X.c : Thread nD τ))
    (fun p : Fin 2 × Fin 16 => (m.access (rQ p.1 p.2)).set) (apartQ m)
    (fun p f => X.atQ m p.1 p.2 f) fun _ _ => rfl
  rw [univ2x16] at h1 h2
  exact ⟨h1, h2⟩
theorem piecesK (m : Memref sig .tc .vmem SK .f32) : (iprop(∃ f, m.view.loc (X.c : Thread nD τ) ↦{fullShare} f) : sProp 𝕄)
    ⊣⊢ iprop((bigSepL heads4 (fun h => iprop(∃ f, X.atK m 0 h f)) ∗ bigSepL heads4 (fun h => iprop(∃ f, X.atK m 1 h f))) ∗ X.spareK m) := by
  have h1 := Ring.pieces_split_spare (Ix := Unit) (Name := ℕ) (U := Pipeline.UD sig nD τ) (Lvl := ℕ) (q := fullShare) (ℓ := m.view.loc (X.c : Thread nD τ))
    (fun p : Fin 2 × Fin 4 => setK m p.1 p.2) (apartK m)
    (fun p f => X.atK m p.1 p.2 f) fun _ _ => rfl
  have h2 := Ring.pieces_join_spare (Ix := Unit) (Name := ℕ) (U := Pipeline.UD sig nD τ) (Lvl := ℕ) (q := fullShare) (ℓ := m.view.loc (X.c : Thread nD τ))
    (fun p : Fin 2 × Fin 4 => setK m p.1 p.2) (apartK m)
    (fun p f => X.atK m p.1 p.2 f) fun _ _ => rfl
  rw [univ2x4] at h1 h2
  exact ⟨h1, h2⟩
theorem splitO : (iprop(∃ f, X.B.o.view.loc (X.c : Thread nD τ) ↦{fullShare} f) : sProp 𝕄)
    ⊢ iprop((X.blkFree 0 ∗ X.blkFree 1 ∗ X.blkFree 2 ∗ X.blkFree 3) ∗ X.spareO) := by
  have h1 := Ring.pieces_split_spare (Ix := Unit) (Name := ℕ) (U := Pipeline.UD sig nD τ) (Lvl := ℕ) (q := fullShare) (ℓ := X.B.o.view.loc (X.c : Thread nD τ))
    (fun p : Fin 4 × Fin 16 => (X.B.o.access (rA p.1 p.2)).set) (apartO X.B.o)
    (fun p f => X.atO p.1 p.2 f) fun _ _ => rfl
  rw [univ4x16] at h1
  exact h1
/-- The result's blocks, written, join to a result reading right on every head of every block. -/
theorem joinO : iprop((X.blkDone 0 ∗ X.blkDone 1 ∗ X.blkDone 2 ∗ X.blkDone 3) ∗ X.spareO)
    ⊢ (iprop(∃ f, ⌜∀ i h, (stripA X.B.o i h).view.read Val f = X.outMat i h⌝ ∗ X.B.o.view.loc (X.c : Thread nD τ) ↦{fullShare} f) : sProp 𝕄) := by
  have e : (iprop(X.blkDone 0 ∗ X.blkDone 1 ∗ X.blkDone 2 ∗ X.blkDone 3) : sProp 𝕄)
      = bigSep Finset.univ (fun p : Fin 4 × Fin 16 =>
        iprop(∃ f, ⌜(stripA X.B.o p.1 p.2).view.read Val f = X.outMat p.1 p.2⌝ ∗ X.atO p.1 p.2 f)) := (univ4x16 (fun p : Fin 4 × Fin 16 =>
          iprop(∃ f, ⌜(stripA X.B.o p.1 p.2).view.read Val f = X.outMat p.1 p.2⌝ ∗ X.atO p.1 p.2 f))).symm
  rw [e]
  unfold spareO
  iintro ⟨HD, %f₀, Hs⟩
  have : Nonempty (Buf Val (X.B.o.view.loc (X.c : Thread nD τ))) := ⟨f₀⟩
  ihave HD := (bigSep_exists_pi Finset.univ fun (p : Fin 4 × Fin 16) (f : Buf Val (X.B.o.view.loc (X.c : Thread nD τ))) =>
    iprop(⌜(stripA X.B.o p.1 p.2).view.read Val f = X.outMat p.1 p.2⌝ ∗ X.atO p.1 p.2 f)) $$ HD
  icases HD with ⟨%F, HD⟩
  ihave HD := (bigSep_pure_sep Finset.univ (fun p : Fin 4 × Fin 16 => (stripA X.B.o p.1 p.2).view.read Val (F p) = X.outMat p.1 p.2)
    fun p => X.atO p.1 p.2 (F p)) $$ HD
  icases HD with ⟨%hF, HD⟩
  ihave HJ := (pointsTo_biUnion_join (q := fullShare) Finset.univ (fun p : Fin 4 × Fin 16 => (X.B.o.access (rA p.1 p.2)).set) F f₀
    (fun p _ p' _ h => apartO X.B.o p p' h)) $$ HD
  icases HJ with ⟨%G, %hG, HG⟩
  iexists ((Finset.univ.biUnion fun p : Fin 4 × Fin 16 => (X.B.o.access (rA p.1 p.2)).set).piecewise G f₀)
  isplitr
  · ipureintro
    intro i h
    rw [← hF (i, h) (Finset.mem_univ _)]
    refine View.read_congr fun x hx => ?_
    rw [show (stripA X.B.o i h).view.set = (X.B.o.access (rA i h)).set from set_strip _ _ _] at hx
    rw [Finset.piecewise_eq_of_mem _ _ _ (Finset.mem_biUnion.mpr ⟨(i, h), Finset.mem_univ _, hx⟩)]
    exact hG (i, h) (Finset.mem_univ _) x hx
  · iapply (pointsTo_join_subset (Finset.subset_univ _)) $$ [HG Hs]
    isplitl [HG] <;> iassumption

/-! ## The whole state -/

/-- What is set aside during the run. -/
def spare : sProp 𝕄 :=
  iprop((X.B.q.view.loc (X.c : Thread nD τ) ↦{Transfers.shareDrop fullShare 32} X.fq)
    ∗ (X.B.k.view.loc (X.c : Thread nD τ) ↦{Transfers.shareDrop fullShare 8} X.fk)
    ∗ (X.B.v.view.loc (X.c : Thread nD τ) ↦{Transfers.shareDrop fullShare 8} X.fv)
    ∗ X.spareQ X.B.qs ∗ X.spareK X.B.ks ∗ X.spareK X.B.vs ∗ X.spareQ X.B.os ∗ X.spareO)

/-- The arguments, whole. -/
def args : sProp 𝕄 :=
  iprop((X.B.q.view.loc (X.c : Thread nD τ) ↦{fullShare} X.fq) ∗ (X.B.k.view.loc (X.c : Thread nD τ) ↦{fullShare} X.fk)
    ∗ (X.B.v.view.loc (X.c : Thread nD τ) ↦{fullShare} X.fv))
/-- The scratch buffers, whole. -/
def scratch : sProp 𝕄 :=
  iprop((∃ f, X.B.qs.view.loc (X.c : Thread nD τ) ↦{fullShare} f) ∗ (∃ f, X.B.ks.view.loc (X.c : Thread nD τ) ↦{fullShare} f)
    ∗ (∃ f, X.B.vs.view.loc (X.c : Thread nD τ) ↦{fullShare} f) ∗ (∃ f, X.B.os.view.loc (X.c : Thread nD τ) ↦{fullShare} f))

/-- A slot's buffers, gathered by kind. -/
theorem inFree_eq (s : Fin 2) : X.inFree s ⊣⊢ iprop((bigSepL heads16 (X.shQ s) ∗ bigSepL heads16 (fun h => iprop(∃ f, X.atQ X.B.qs s h f)))
    ∗ (bigSepL heads4 (X.shK s) ∗ bigSepL heads4 (fun g => iprop(∃ f, X.atK X.B.ks s g f)))
    ∗ bigSepL heads4 (X.shV s) ∗ bigSepL heads4 (fun g => iprop(∃ f, X.atK X.B.vs s g f))) := by
  unfold inFree
  refine ⟨BIClass.sep_mono (bigSepL_sep _ _ _).1 ((bigSepL_sep _ _ _).1.trans (BIClass.sep_mono (bigSepL_sep _ _ _).1 (bigSepL_sep _ _ _).1)),
    BIClass.sep_mono (bigSepL_sep _ _ _).2 ((BIClass.sep_mono (bigSepL_sep _ _ _).2 (bigSepL_sep _ _ _).2).trans (bigSepL_sep _ _ _).2)⟩

theorem enter : iprop(X.args ∗ X.scratch ∗ (X.semI 0 ∗ X.semI 1 ∗ X.semO 0 ∗ X.semO 1) ∗ ∃ f, X.B.o.view.loc (X.c : Thread nD τ) ↦{fullShare} f)
    ⊢ iprop(X.at0 ∗ X.spare) := by
  unfold args scratch at0 spare
  iintro ⟨⟨Hq, Hk, Hv⟩, ⟨HQ, HK, HV, HO⟩, ⟨S0, S1, T0, T1⟩, Ho⟩
  ihave Hq := X.dealQ.1 $$ Hq
  icases Hq with ⟨Dq, q0, q1⟩
  ihave Hk := (deal8 X.fk).1 $$ Hk
  icases Hk with ⟨Dk, k0, k1⟩
  ihave Hv := (deal8 X.fv).1 $$ Hv
  icases Hv with ⟨Dv, v0, v1⟩
  ihave HQ := (X.piecesQ X.B.qs).1 $$ HQ
  icases HQ with ⟨⟨Q0, Q1⟩, SQ⟩
  ihave HK := (X.piecesK X.B.ks).1 $$ HK
  icases HK with ⟨⟨K0, K1⟩, SK⟩
  ihave HV := (X.piecesK X.B.vs).1 $$ HV
  icases HV with ⟨⟨V0, V1⟩, SV⟩
  ihave HO := (X.piecesQ X.B.os).1 $$ HO
  icases HO with ⟨⟨O0, O1⟩, SO⟩
  ihave Ho := X.splitO $$ Ho
  icases Ho with ⟨HB, So⟩
  isplitr [Dq Dk Dv SQ SK SV SO So]
  · isplitr [O0 O1 T0 T1 HB]
    · isplitl [q0 k0 v0 Q0 K0 V0]
      · iapply (X.inFree_eq 0).2
        isplitl [q0 Q0]
        · isplitl [q0] <;> iassumption
        isplitl [k0 K0]
        · isplitl [k0]
          · iexact k0
          · iexact K0
        isplitl [v0]
        · iexact v0
        · iexact V0
      isplitl [q1 k1 v1 Q1 K1 V1]
      · iapply (X.inFree_eq 1).2
        isplitl [q1 Q1]
        · isplitl [q1] <;> iassumption
        isplitl [k1 K1]
        · isplitl [k1]
          · iexact k1
          · iexact K1
        isplitl [v1]
        · iexact v1
        · iexact V1
      isplitl [S0] <;> iassumption
    · isplitr [HB]
      · unfold outFree
        isplitl [O0]; · iexact O0
        isplitl [O1]; · iexact O1
        isplitl [T0] <;> iassumption
      · iexact HB
  · isplitl [Dq]; · iexact Dq
    isplitl [Dk]; · iexact Dk
    isplitl [Dv]; · iexact Dv
    isplitl [SQ]; · iexact SQ
    isplitl [SK]; · iexact SK
    isplitl [SV]; · iexact SV
    isplitl [SO] <;> iassumption

theorem leave : iprop(X.at4 ∗ X.spare)
    ⊢ iprop(X.args ∗ X.scratch ∗ (X.semI 0 ∗ X.semI 1 ∗ X.semO 0 ∗ X.semO 1)
      ∗ ∃ f, ⌜∀ i h, (stripA X.B.o i h).view.read Val f = X.outMat i h⌝ ∗ X.B.o.view.loc (X.c : Thread nD τ) ↦{fullShare} f) := by
  unfold args scratch at4 spare
  iintro ⟨⟨⟨I0, I1, S0, S1⟩, ⟨O0, O1, T0, T1⟩, HB⟩, Dq, Dk, Dv, SQ, SK, SV, SO, So⟩
  ihave I0 := (X.inFree_eq 0).1 $$ I0
  icases I0 with ⟨⟨q0, Q0⟩, ⟨k0, K0⟩, v0, V0⟩
  ihave I1 := (X.inFree_eq 1).1 $$ I1
  icases I1 with ⟨⟨q1, Q1⟩, ⟨k1, K1⟩, v1, V1⟩
  isplitl [Dq q0 q1 Dk k0 k1 Dv v0 v1]
  · isplitl [Dq q0 q1]
    · iapply X.dealQ.2
      isplitl [Dq]; · iexact Dq
      isplitl [q0] <;> iassumption
    isplitl [Dk k0 k1]
    · iapply (deal8 X.fk).2
      isplitl [Dk]; · iexact Dk
      isplitl [k0]
      · iexact k0
      · iexact k1
    · iapply (deal8 X.fv).2
      isplitl [Dv]; · iexact Dv
      isplitl [v0]
      · iexact v0
      · iexact v1
  isplitl [Q0 Q1 SQ K0 K1 SK V0 V1 SV O0 O1 SO]
  · isplitl [Q0 Q1 SQ]
    · iapply (X.piecesQ X.B.qs).2
      isplitr [SQ]
      · isplitl [Q0] <;> iassumption
      · iexact SQ
    isplitl [K0 K1 SK]
    · iapply (X.piecesK X.B.ks).2
      isplitr [SK]
      · isplitl [K0] <;> iassumption
      · iexact SK
    isplitl [V0 V1 SV]
    · iapply (X.piecesK X.B.vs).2
      isplitr [SV]
      · isplitl [V0] <;> iassumption
      · iexact SV
    · iapply (X.piecesQ X.B.os).2
      unfold outFree
      isplitr [SO]
      · isplitl [O0] <;> iassumption
      · iexact SO
  isplitl [S0 S1 T0 T1]
  · isplitl [S0]; · iexact S0
    isplitl [S1]; · iexact S1
    isplitl [T0] <;> iassumption
  iapply X.joinO
  isplitl [HB] <;> iassumption

end Env

end Attn

end
-- ==== Proof.KernelIdealPoints.lean ====
/-
  The printed body of `KernelIdeal` at each of its four grid points is the schedule of `Proof/Plan.lean`, run at the
  program's own buffers and at the arithmetic its first heads print: by definitional unfolding, left to the
  kernel.
-/
module

public import proofs.«01_k».proof.Proof.Plan
public import proofs.«01_k».proof.Proof.Gen.KernelIdeal.Launch
public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F] [Named F]

/-- The body's buffers. -/
def bufs (arg2 : Memref sig .tc .hbm S1024x16x128 .f32) (arg3 arg4 : Memref sig .tc .hbm S1024x4x128 .f32)
    (arg5 : Memref sig .tc .hbm S1024x16x128 .f32) (arg6 : Memref sig .tc .vmem S2x16x256x128 .f32)
    (arg7 arg8 : Memref sig .tc .vmem S2x4x640x128 .f32) (arg9 : Memref sig .tc .vmem S2x16x256x128 .f32)
    (arg10 arg11 : DmaSems sig S2) : Attn.Bufs sig := ⟨arg2, arg3, arg4, arg5, arg6, arg7, arg8, arg9, arg10, arg11⟩

/-- One head's arithmetic at point 0, at the three boundaries. -/
def cell0 (v0 v1 v2 : Elt F .i32) : Attn.Bufs.Cells (Elt F) (Attn.win 0).n := fun _ kx vx qx =>
  k0_pay6 (k0_pay1 v0 v1 v2) (k0_pay3 kx) (k0_pay4 k0_pay2 vx) qx
/-- One head's arithmetic at point 1. -/
def cell1 (v0 v1 v2 : Elt F .i32) : Attn.Bufs.Cells (Elt F) (Attn.win 1).n := fun _ kx vx qx =>
  k0_pay37 (k0_pay32 v0 v1 v2) (k0_pay34 kx) (k0_pay35 k0_pay33 vx) qx
/-- One head's arithmetic at point 2. -/
def cell2 (v0 v1 v2 : Elt F .i32) : Attn.Bufs.Cells (Elt F) (Attn.win 2).n := fun _ kx vx qx =>
  k0_pay68 (k0_pay63 v0 v1 v2) (k0_pay65 kx) (k0_pay66 k0_pay64 vx) qx
/-- One head's arithmetic at point 3. -/
def cell3 (v0 v1 v2 : Elt F .i32) : Attn.Bufs.Cells (Elt F) (Attn.win 3).n := fun _ kx vx qx =>
  k0_pay99 (k0_pay94 v0 v1 v2) (k0_pay96 kx) (k0_pay97 k0_pay95 vx) qx

variable [Facts] (arg1 : Memref sig .tc .smem S5 .i32)

/-- The three boundaries read from the table, then a program of them. -/
def withCuts (k : Elt F .i32 → Elt F .i32 → Elt F .i32 → Prog (TpuEff nD τ sig (Elt F) Λ₀ .tc) PUnit) :
    Prog (TpuEff nD τ sig (Elt F) Λ₀ .tc) PUnit :=
  (smemLoad (nD := nD) (τ := τ) (Val := Elt F) (Λ := Λ₀) (p := .tc) arg1 (Rect.unit (s := S5) ![1] S1.size Facts₀.inb_S5_S1_1) Facts₀.numel1_S1 rfl).bind fun v0 =>
  (smemLoad (nD := nD) (τ := τ) (Val := Elt F) (Λ := Λ₀) (p := .tc) arg1 (Rect.unit (s := S5) ![2] S1.size Facts₀.inb_S5_S1_2) Facts₀.numel1_S1 rfl).bind fun v1 =>
  (smemLoad (nD := nD) (τ := τ) (Val := Elt F) (Λ := Λ₀) (p := .tc) arg1 (Rect.unit (s := S5) ![3] S1.size Facts₀.inb_S5_S1_3) Facts₀.numel1_S1 rfl).bind fun v2 => k v0 v1 v2

variable (harg1 : arg1.IsWhole) (arg2 : Memref sig .tc .hbm S1024x16x128 .f32) (harg2 : arg2.IsWhole) (arg3 : Memref sig .tc .hbm S1024x4x128 .f32) (harg3 : arg3.IsWhole) (arg4 : Memref sig .tc .hbm S1024x4x128 .f32) (harg4 : arg4.IsWhole) (arg5 : Memref sig .tc .hbm S1024x16x128 .f32) (harg5 : arg5.IsWhole) (arg6 : Memref sig .tc .vmem S2x16x256x128 .f32) (harg6 : arg6.IsWhole) (arg7 : Memref sig .tc .vmem S2x4x640x128 .f32) (harg7 : arg7.IsWhole) (arg8 : Memref sig .tc .vmem S2x4x640x128 .f32) (harg8 : arg8.IsWhole) (arg9 : Memref sig .tc .vmem S2x16x256x128 .f32) (harg9 : arg9.IsWhole) (arg10 : DmaSems sig S2) (arg11 : DmaSems sig S2)

/-- The printed body at point 0. -/
theorem body0 : cc0__attn_kernel (F := F) (grid0.coords t0_0) arg1 harg1 arg2 harg2 arg3 harg3 arg4 harg4 arg5 harg5 arg6 harg6 arg7 harg7 arg8 harg8 arg9 harg9 arg10 arg11
    = withCuts arg1 fun v0 v1 v2 => (bufs arg2 arg3 arg4 arg5 arg6 arg7 arg8 arg9 arg10 arg11).point0 (nD := nD) (τ := τ) (cell0 v0 v1 v2) := by
  chain_rfl

/-- The printed body at point 1. -/
theorem body1 : cc0__attn_kernel (F := F) (grid0.coords t0_1) arg1 harg1 arg2 harg2 arg3 harg3 arg4 harg4 arg5 harg5 arg6 harg6 arg7 harg7 arg8 harg8 arg9 harg9 arg10 arg11
    = withCuts arg1 fun v0 v1 v2 => (bufs arg2 arg3 arg4 arg5 arg6 arg7 arg8 arg9 arg10 arg11).point1 (nD := nD) (τ := τ) (cell1 v0 v1 v2) := by
  chain_rfl

/-- The printed body at point 2. -/
theorem body2 : cc0__attn_kernel (F := F) (grid0.coords t0_2) arg1 harg1 arg2 harg2 arg3 harg3 arg4 harg4 arg5 harg5 arg6 harg6 arg7 harg7 arg8 harg8 arg9 harg9 arg10 arg11
    = withCuts arg1 fun v0 v1 v2 => (bufs arg2 arg3 arg4 arg5 arg6 arg7 arg8 arg9 arg10 arg11).point2 (nD := nD) (τ := τ) (cell2 v0 v1 v2) := by
  chain_rfl

/-- The printed body at point 3. -/
theorem body3 : cc0__attn_kernel (F := F) (grid0.coords t0_3) arg1 harg1 arg2 harg2 arg3 harg3 arg4 harg4 arg5 harg5 arg6 harg6 arg7 harg7 arg8 harg8 arg9 harg9 arg10 arg11
    = withCuts arg1 fun v0 v1 v2 => (bufs arg2 arg3 arg4 arg5 arg6 arg7 arg8 arg9 arg10 arg11).point3 (nD := nD) (τ := τ) (cell3 v0 v1 v2) := by
  chain_rfl

end Cert.KernelIdeal.Hand

end
-- ==== Proof.KernelIdealRun.lean ====
/-
  The run of `KernelIdeal`: its launch over the schedule's invariant. The buffers the kernel copies through are held at the
  state each grid point leaves them in (`Attn.Env.at0` … `at4`), the prefetched table beside them at the contents the
  launch found; after the last point every block of the result holds the head outputs, whatever the table says.
-/
module

public import proofs.«01_k».proof.Proof.Ends
public import proofs.«01_k».proof.Proof.KernelIdealPoints
public import Idealize.ShloMosaic.Lib.Pipeline.FrameBody
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-! ## The table -/

/-- The table's element `j`, as the body's scalar load of the unit rectangle at it reads it. -/
def word (T : main_arg3.ty.Contents (Elt F)) (j : ℕ) (h : ∀ a, (![j] : Fin 1 → ℕ) a + S1.size a ≤ S5.size a) : Elt F .i32 :=
  ((Memref.whole main_arg3 : Memref sig .tc .smem S5 .i32).access (Rect.unit (s := S5) ![j] S1.size h)).read (Elt F) T
    (Shape.Idx.first (Facts₀.numel1_S1.symm ▸ Nat.one_pos))
/-- The three boundaries the body reads. -/
abbrev cut1 (T : main_arg3.ty.Contents (Elt F)) : Elt F .i32 := word T 1 Facts₀.inb_S5_S1_1
abbrev cut2 (T : main_arg3.ty.Contents (Elt F)) : Elt F .i32 := word T 2 Facts₀.inb_S5_S1_2
abbrev cut3 (T : main_arg3.ty.Contents (Elt F)) : Elt F .i32 := word T 3 Facts₀.inb_S5_S1_3

/-- The table on core `c` at the contents `T`, at the share the region hands its body. -/
def tab (c : Dev nD) (T : main_arg3.ty.Contents (Elt F)) : sProp 𝕄 :=
  (c : Thread nD τ).loc main_arg3 ↦{fullShare.right} T

/-- The three reads as elementary loads. -/
theorem withCuts_eq (M : Memref sig .tc .smem S5 .i32) (k : Elt F .i32 → Elt F .i32 → Elt F .i32 → Prog (TpuEff nD τ sig (Elt F) Λ₀ .tc) PUnit) :
    withCuts M k = smemLoadElt (nD := nD) (τ := τ) (Val := Elt F) (Λ := Λ₀) (p := .tc) M (Rect.unit (s := S5) ![1] S1.size Facts₀.inb_S5_S1_1) (View.loads_smem_one rfl Facts₀.numel1_S1) (Shape.Idx.first (Facts₀.numel1_S1.symm ▸ Nat.one_pos))
      fun v0 => smemLoadElt (nD := nD) (τ := τ) (Val := Elt F) (Λ := Λ₀) (p := .tc) M (Rect.unit (s := S5) ![2] S1.size Facts₀.inb_S5_S1_2) (View.loads_smem_one rfl Facts₀.numel1_S1) (Shape.Idx.first (Facts₀.numel1_S1.symm ▸ Nat.one_pos))
      fun v1 => smemLoadElt (nD := nD) (τ := τ) (Val := Elt F) (Λ := Λ₀) (p := .tc) M (Rect.unit (s := S5) ![3] S1.size Facts₀.inb_S5_S1_3) (View.loads_smem_one rfl Facts₀.numel1_S1) (Shape.Idx.first (Facts₀.numel1_S1.symm ▸ Nat.one_pos))
      fun v2 => k v0 v1 v2 := rfl

theorem withCuts_spec (c : Dev nD) (bd : Option Variants.none.V) (T : main_arg3.ty.Contents (Elt F))
    (k : Elt F .i32 → Elt F .i32 → Elt F .i32 → Prog (TpuEff nD τ sig (Elt F) Λ₀ .tc) PUnit) (R : PUnit → sProp (MT nD τ sig Unit (Elt F) ℕ (Pipeline.UD sig nD τ) ℕ)) :
    tab c T ⊢ iprop((tab c T -∗ wp frame (wpE (defs₀ (F := F)) Variants.none (c : Thread nD τ) bd) Set.univ (k (cut1 T) (cut2 T) (cut3 T)) R)
      -∗ wp frame (wpE (defs₀ (F := F)) Variants.none (c : Thread nD τ) bd) Set.univ (withCuts (Memref.whole main_arg3) k) R) := by
  rw [withCuts_eq]
  unfold tab
  iintro HT Hk
  iapply (wp_smemLoadElt (defs := defs₀ (F := F)) Variants.none (c : Thread nD τ) bd Set.univ (m := (Memref.whole main_arg3 : Memref sig .tc .smem S5 .i32))
    (r := Rect.unit (s := S5) ![1] S1.size Facts₀.inb_S5_S1_1) (S := Finset.univ) (f := T) (Finset.subset_univ _)) $$ HT
  iintro HT
  iapply (wp_smemLoadElt (defs := defs₀ (F := F)) Variants.none (c : Thread nD τ) bd Set.univ (m := (Memref.whole main_arg3 : Memref sig .tc .smem S5 .i32))
    (r := Rect.unit (s := S5) ![2] S1.size Facts₀.inb_S5_S1_2) (S := Finset.univ) (f := T) (Finset.subset_univ _)) $$ HT
  iintro HT
  iapply (wp_smemLoadElt (defs := defs₀ (F := F)) Variants.none (c : Thread nD τ) bd Set.univ (m := (Memref.whole main_arg3 : Memref sig .tc .smem S5 .i32))
    (r := Rect.unit (s := S5) ![3] S1.size Facts₀.inb_S5_S1_3) (S := Finset.univ) (f := T) (Finset.subset_univ _)) $$ HT
  iintro HT
  iapply Hk; iexact HT

/-! ## The environment of a run -/

/-- The program's own buffers. -/
abbrev B0 : Attn.Bufs sig :=
  bufs (Memref.whole main_arg0) (Memref.whole main_arg1) (Memref.whole main_arg2) (Memref.whole main_v0)
    (Memref.whole cc0_scratch0) (Memref.whole cc0_scratch1) (Memref.whole cc0_scratch2) (Memref.whole cc0_scratch3) cc0_scratch4 cc0_scratch5

/-- Each block's arithmetic at a table. -/
def cells (T : main_arg3.ty.Contents (Elt F)) : (i : Fin 4) → Attn.Bufs.Cells (Elt F) (Attn.win i).n
  | 0 => cell0 (cut1 T) (cut2 T) (cut3 T)
  | 1 => cell1 (cut1 T) (cut2 T) (cut3 T)
  | 2 => cell2 (cut1 T) (cut2 T) (cut3 T)
  | 3 => cell3 (cut1 T) (cut2 T) (cut3 T)

/-- The run from the memory `m` on core `c`. -/
def env (c : Dev nD) : Attn.Env nD τ sig (Elt F) where
  B := B0
  c := c
  fq := V m c main_arg0
  fk := V m c main_arg1
  fv := V m c main_arg2
  f := cells (V m c main_arg3)

/-- The state before grid point `n`. -/
def st (X : Attn.Env nD τ sig (Elt F)) : ℕ → sProp 𝕄
  | 0 => X.at0
  | 1 => X.at1
  | 2 => X.at2
  | 3 => X.at3
  | _ => X.at4

/-- The invariant before grid point `n`. -/
def inv (c : Dev nD) (n : ℕ) : sProp 𝕄 :=
  iprop(st (env m c) n ∗ (env m c).spare ∗ (∃ r, prngReg c r) ∗ tab c (V m c main_arg3))

/-! ## The kernel's own cells and buffers -/

abbrev osem0 : Fin 4 → SemLoc sig := fun j => (![SemLoc.dma 0, SemLoc.dma 1, SemLoc.dma 2, SemLoc.dma 3] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop((env m c).semI 0 ∗ (env m c).semI 1 ∗ (env m c).semO 0 ∗ (env m c).semO 1) := by
  rw [Pipeline.ownSems0_eq_of_list c osem0 [0, 1, 2, 3] (by decide) (by decide)]; rfl

def H0 : Finset (Ref sig .tc) := {main_arg0, main_arg1, main_arg2}
def R0 : Finset (Ref sig .tc) := {main_v0}
theorem H0_sub : H0 ⊆ Pipeline.restRefsP sig pre0 spec0 := by decide
theorem R0_sub : R0 ⊆ Pipeline.restRefsP sig pre0 spec0 \ H0 := by decide
theorem args_eq (c : Dev nD) : (bigSep H0 (fun b => ((c : Thread nD τ).loc b) ↦{fullShare} V m c b) : sProp 𝕄) = (env m c).args := by
  rw [BI.bigSep_eq_bigSepL_of_eq [main_arg0, main_arg1, main_arg2] (by decide) (by decide)]; rfl
theorem routed0_eq (c : Dev nD) (W : (b : Ref sig .tc) → Buf (Elt F) ((c : Thread nD τ).loc b)) :
    (Pipeline.routed R0 c W : sProp 𝕄) = ((c : Thread nD τ).loc main_v0 ↦{fullShare} W main_v0) := by
  unfold Pipeline.routed; rw [BI.bigSep_eq_bigSepL_of_eq [main_v0] (by decide) (by decide)]; rfl
theorem scratch_eq (c : Dev nD) :
    (Pipeline.scopedRest (Ix := Unit) (Name := ℕ) (U := Pipeline.UD sig nD τ) (Lvl := ℕ) (Val := Elt F) spec0 c : sProp 𝕄) = (env m c).scratch := by
  rw [scopedRest0_eq]; rfl
theorem tab_eq (c : Dev nD) (a : pre0.Contents (Elt F)) (h : a 0 = V m c main_arg3) :
    (Pipeline.prefHeld (Ix := Unit) (Name := ℕ) (U := Pipeline.UD sig nD τ) (Lvl := ℕ) pre0 c (fun _ => fullShare.right) a : sProp 𝕄)
      = tab c (V m c main_arg3) := by
  unfold Pipeline.prefHeld tab
  rw [show (Finset.univ : Finset (Fin pre0.K)) = {0} from by decide, BI.bigSep_singleton, ← h]
  rfl

/-! ## The body at every point -/

/-- One point: the boundaries read off the table, then the schedule's step from the state `A` to `A'`. -/
theorem step (c : Dev nD) (k : Elt F .i32 → Elt F .i32 → Elt F .i32 → Prog (TpuEff nD τ sig (Elt F) Λ₀ .tc) PUnit) (A A' : sProp 𝕄)
    (h : ∀ R : PUnit → sProp 𝕄, iprop(A ∗ (env m c).ows) ⊢ iprop((iprop(A' ∗ (env m c).ows) -∗ R ⟨⟩)
      -∗ wp frame (wpE (defs₀ (F := F)) Variants.none (c : Thread nD τ) none) Set.univ (k (cut1 (V m c main_arg3)) (cut2 (V m c main_arg3)) (cut3 (V m c main_arg3))) R)) :
    iprop(iprop(A ∗ (env m c).spare ∗ (∃ r, prngReg c r) ∗ tab c (V m c main_arg3)) ∗ (env m c).ows)
      ⊢ wp frame (wpE (defs₀ (F := F)) Variants.none (c : Thread nD τ) none) Set.univ (withCuts (Memref.whole main_arg3) k)
        (fun _ => iprop(iprop(A' ∗ (env m c).spare ∗ (∃ r, prngReg c r) ∗ tab c (V m c main_arg3)) ∗ (env m c).ows)) := by
  iintro ⟨⟨HS, Hp, Hg, HT⟩, HW⟩
  iapply (withCuts_spec c none (V m c main_arg3) k _) $$ HT
  iintro HT
  iapply (h _) $$ [HS HW]
  · isplitl [HS]; · iexact HS
    iexact HW
  iintro ⟨HS, HW⟩
  isplitr [HW]; swap; · iexact HW
  isplitl [HS]; · iexact HS
  isplitl [Hp]; · iexact Hp
  isplitl [Hg]; · iexact Hg
  iexact HT

set_option maxRecDepth 20000 in
theorem point_spec (c : Dev nD) (t : Fin grid0.N) :
    iprop(inv m c t.val ∗ ∃ W, owes (c : Thread nD τ) 0 W)
      ⊢ wp frame (wpE (defs₀ (F := F)) Variants.none (c : Thread nD τ) none) Set.univ
        (cc0__attn_kernel (F := F) (grid0.coords t) (Memref.whole main_arg3) (Memref.isWhole_whole _) (Memref.whole main_arg0) (Memref.isWhole_whole _) (Memref.whole main_arg1) (Memref.isWhole_whole _) (Memref.whole main_arg2) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5)
        (fun _ => iprop(inv m c (t.val + 1) ∗ ∃ W, owes (c : Thread nD τ) 0 W)) := by
  rcases fin_N0 t with rfl | rfl | rfl | rfl
  · rw [body0]
    exact step m c _ (env m c).at0 (env m c).at1 fun R => (env m c).point0_spec Variants.none none
  · rw [body1]
    exact step m c _ (env m c).at1 (env m c).at2 fun R => (env m c).point1_spec Variants.none none
  · rw [body2]
    exact step m c _ (env m c).at2 (env m c).at3 fun R => (env m c).point2_spec Variants.none none
  · rw [body3]
    exact step m c _ (env m c).at3 (env m c).at4 fun R => (env m c).point3_spec Variants.none none

/-- The table's contents at launch, which every index map and bound ignores. -/
def adm : (p : Fin 1) → (pcfgs (F := F) p).Adm := fun _ =>
  ⟨fun | ⟨0, _⟩ => V m 0 main_arg3 | ⟨_ + 1, h⟩ => absurd h (by simp), trivial⟩

def dats (c : Dev nD) : Dat τ (Elt F) Unit ℕ (Pipeline.UD sig nD τ) ℕ (Pipeline.pin (pcfgs (F := F)) (adm m) 0) c where
  A w := V m c (Pipeline.arrRef spec0 w)
  after w t := w.elim0
  Φ t := inv m c t.val
  q _ := fullShare
  owed _ := 0

theorem body_obligation (c : Dev nD) : BodyObligation (dats m c) (defs₀ (F := F)) Variants.none () Set.univ := fun t => by
  refine triple_restated (P := iprop(inv m c t.val ∗ ∃ W, owes (c : Thread nD τ) 0 W)) (point_spec m c t) ?_ ?_ fun _ => ?_
  · unfold defs₀; rw [Defs.onTc_tc]
  · rw [Finset.univ_eq_empty, bigSep_empty]
    change iprop(inv m c t.val ∗ _ ∗ _) ⊢ _
    unfold Dat.owesAt Pipeline.owesWithin
    iintro ⟨HI, ⟨%W, -, HW⟩, -⟩
    isplitl [HI]; · iexact HI
    iexists W; iexact HW
  · rw [Finset.univ_eq_empty, bigSep_empty]
    change _ ⊢ iprop(inv m c (t.val + 1) ∗ _ ∗ _)
    unfold Dat.owesAt Pipeline.owesWithin
    iintro ⟨HI, ⟨%W, HW⟩⟩
    isplitl [HI]; · iexact HI
    isplitl [HW]
    · iexists W; isplitr; · ipureintro; exact fun _ _ => Or.inl trivial
      iexact HW
    iempintro

/-- Every block of the result buffer holds its head outputs. -/
def Done (c : Dev nD) (W : (b : Ref sig .tc) → Buf (Elt F) ((c : Thread nD τ).loc b)) : Prop :=
  ∀ i h, (Attn.Bufs.stripA (B0).o i h).view.read (Elt F) (W main_v0) = (env m c).outMat i h

/-- Contents of every buffer that are `f` at the result's. -/
def contentsOf (c : Dev nD) (f : Buf (Elt F) ((c : Thread nD τ).loc main_v0)) (b : Ref sig .tc) : Buf (Elt F) ((c : Thread nD τ).loc b) :=
  if h : b = main_v0 then h ▸ f else V m c b
theorem contentsOf_self (c : Dev nD) (f : Buf (Elt F) ((c : Thread nD τ).loc main_v0)) : contentsOf m c f main_v0 = f := by
  unfold contentsOf; rw [dif_pos rfl]

theorem done_of (c : Dev nD) (f : Buf (Elt F) ((c : Thread nD τ).loc main_v0))
    (hf : ∀ i h, (Attn.Bufs.stripA (B0).o i h).view.read (Elt F) f = (env m c).outMat i h) : Done m c (contentsOf m c f) := by
  intro i h
  rw [contentsOf_self]; exact hf i h
theorem routed_of (c : Dev nD) (f : Buf (Elt F) ((c : Thread nD τ).loc main_v0)) :
    ((c : Thread nD τ).loc main_v0 ↦{fullShare} f : sProp 𝕄) ⊢ Pipeline.routed R0 c (contentsOf m c f) := by
  rw [routed0_eq, contentsOf_self]

theorem enter (c : Dev nD) :
    iprop(Pipeline.ΦDRG osem0 spec0 H0 R0 (V m) (V m) c ∗ Pipeline.prefHeld (Ix := Unit) (Name := ℕ) (U := Pipeline.UD sig nD τ) (Lvl := ℕ) pre0 c (fun _ => fullShare.right) (adm m 0).1)
      ⊢ inv m c 0 := by
  rw [Pipeline.ΦDRG_eq, scratch_eq m c, ownSems00_eq m c, args_eq m c, routed0_eq, tab_eq m c _ (by rw [Subsingleton.elim c 0]; rfl)]
  change _ ⊢ iprop((env m c).at0 ∗ _ ∗ _ ∗ _)
  iintro ⟨⟨HS, Hg, Hs, HA, HR⟩, HT⟩
  ihave H := (env m c).enter $$ [HS Hs HA HR]
  · isplitl [HA]; · iexact HA
    isplitl [HS]; · iexact HS
    isplitl [Hs]; · iexact Hs
    iexists _; iexact HR
  icases H with ⟨HS, Hp⟩
  isplitl [HS]; · iexact HS
  isplitl [Hp]; · iexact Hp
  isplitl [Hg]; · iexact Hg
  iexact HT

theorem leave (c : Dev nD) :
    inv m c 4 ⊢ iprop(Pipeline.ΦD osem0 spec0 H0 (V m) c ∗ Pipeline.routedSat R0 c (Done m c)) := by
  rw [Pipeline.ΦD_eq, scratch_eq m c, ownSems00_eq m c, args_eq m c]
  change iprop((env m c).at4 ∗ (env m c).spare ∗ (∃ r, prngReg c r) ∗ tab c (V m c main_arg3)) ⊢ _
  unfold Pipeline.routedSat
  iintro ⟨HS, Hp, Hg, -⟩
  ihave H := (env m c).leave $$ [HS Hp]
  · isplitl [HS]; · iexact HS
    iexact Hp
  icases H with ⟨HA, HS, Hs, ⟨%f, %hf, HR⟩⟩
  isplitr [HR]
  · isplitl [HS]; · iexact HS
    isplitl [Hg]; · iexact Hg
    isplitl [Hs]; · iexact Hs
    iexact HA
  · iexists (contentsOf m c f)
    isplitr
    · ipureintro
      exact done_of m c f hf
    · iapply (routed_of m c f); iexact HR

/-! ## The run -/

theorem hmain : Pipeline.HMainP (Ix := Unit) (Name := ℕ) (U := Pipeline.UD sig nD τ) (Lvl := ℕ) (pcfgs (F := F)) 0 defs₀ Variants.none m (main (F := F)) (V m) :=
  Pipeline.hmainP_region (pcfgs (F := F)) 0 defs₀ Variants.none m main fun c => (main_chain c).trans rfl

set_option backward.isDefEq.respectTransparency.types false in
/-- The program terminates, faults nowhere, leaves its arguments and every counter as they were, and every block of its
    result holds the head outputs. -/
theorem run_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ ∀ i h, (Attn.Bufs.stripA (B0).o i h).view.read (Elt F) (r.2.mem ((c.tc : Thread nD τ).loc main_v0)) = (env m c).outMat i h)
      ∧ r.2.sem = fun _ => 0) :=
  Pipeline.RDat.θ_run_frameP_dmaRSat_shared (pcfgs (F := F)) (adm m) 0 launch0.to₀ osem0 defs₀ Variants.none
    (fun c => (dats m c).toR) ownSemFacts0 H0 R0 H0_sub R0_sub m ρ main
    (hbody := fun c => (body_obligation m c).loose.toR) (hq := fun _ w => w.elim0) (howed := fun _ _ => rfl)
    (V := V m) (hmain := hmain m) (hA := fun _ w => w.elim0)
    (hpf := fun c k => by
      rw [Subsingleton.elim c 0]
      match k with
      | ⟨0, _⟩ => rfl
      | ⟨_ + 1, h⟩ => exact absurd h (by simp))
    (PG := Done m) (hin := enter m) (hout := leave m) (Q' := _)
    (hQ' := fun r h => ⟨fun c => by
      have hr : ∀ b, b ∈ Pipeline.restRefs sig spec0 \ R0 → r.2.mem ((c.tc : Thread nD τ).loc b) = V m c b := (h.1.1 c).2
      obtain ⟨W, hW, hm⟩ := h.1.2 c
      refine ⟨hr main_arg0 (by decide), hr main_arg1 (by decide), hr main_arg2 (by decide), hr main_arg3 (by decide), ?_⟩
      have e := hm main_v0 (by decide)
      intro i k
      rw [e]; exact hW i k, h.2⟩)

/-- The frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun _ h => ⟨fun c => ⟨(h.1 c).1, (h.1 c).2.1, (h.1 c).2.2.1, (h.1 c).2.2.2.1⟩, h.2⟩) (run_main m ρ)

end Cert.KernelIdeal.Hand

end
-- ==== Proof.Segments.lean ====
/- Which key a position sees, as inequalities of whole numbers, and the two ways the programs write it in words: the kernel
   compares a key with the start of the position's segment, and the reference compares two counts of segment starts. -/
module

public import Idealize.ShloMosaic.Lib.Pointwise
public import Idealize.ShloMosaic.Lib.WordCmp
public import Idealize.ShloMosaic.Lib.StableHlo.Predicate

@[expose] public section

namespace Attn.Segments

open Idealize.ShloMosaic

/-- The start of the segment of position `t`, from the three inner boundaries. -/
def start (c1 c2 c3 : ℤ) (t : ℕ) : ℤ :=
  if c3 ≤ t then c3 else if c2 ≤ t then c2 else if c1 ≤ t then c1 else 0

/-- Position `t` sees key `s`: the key is in the same segment, and not later. -/
def Sees (c1 c2 c3 : ℤ) (t s : ℕ) : Prop := start c1 c2 c3 t ≤ s ∧ s ≤ t

instance (c1 c2 c3 : ℤ) (t s : ℕ) : Decidable (Sees c1 c2 c3 t s) := by unfold Sees; infer_instance

/-- What the precondition says of the boundaries. -/
structure Good (c1 c2 c3 c4 : ℤ) : Prop where
  le12 : c1 ≤ c2
  le23 : c2 ≤ c3
  last : 1024 ≤ c4
  low : (128 ≤ c1 ∧ c1 ≤ 256) ∨ (128 ≤ c2 ∧ c2 ≤ 256) ∨ (128 ≤ c3 ∧ c3 ≤ 256)
  high : (384 ≤ c1 ∧ c1 ≤ 512) ∨ (384 ≤ c2 ∧ c2 ≤ 512) ∨ (384 ≤ c3 ∧ c3 ≤ 512)

/-- A position whose segment starts nowhere later than itself sees itself. -/
theorem sees_self (c1 c2 c3 : ℤ) (t : ℕ) : Sees c1 c2 c3 t t := by
  unfold Sees start; split_ifs <;> omega

/-- Each boundary at or before a position bounds the keys it sees. -/
theorem Good.low_bound {c1 c2 c3 c4 : ℤ} (g : Good c1 c2 c3 c4) {t s : ℕ} (ht : 256 ≤ t) (h : Sees c1 c2 c3 t s) : 128 ≤ s := by
  have := g.le12; have := g.le23; have := g.low
  unfold Sees start at h; split_ifs at h <;> omega

/-- The same at the later boundary. -/
theorem Good.high_bound {c1 c2 c3 c4 : ℤ} (g : Good c1 c2 c3 c4) {t s : ℕ} (ht : 512 ≤ t) (h : Sees c1 c2 c3 t s) : 384 ≤ s := by
  have := g.le12; have := g.le23; have := g.high
  unfold Sees start at h; split_ifs at h <;> omega

/-- A signed comparison of a small position with a word. -/
theorem sge_iff (t : ℕ) (ht : t < 2 ^ 31) (v : BitVec 32) : IntOp.cmpi .sge (BitVec.ofNat 32 t) v = 1#1 ↔ v.toInt ≤ t := by
  rw [WordCmp.cmpi_sge_eq, StableHlo.Predicate.ofBool_eq_one_iff, decide_eq_true_iff, StableHlo.Predicate.toInt_ofNat_small t ht]

/-- The same the other way round. -/
theorem sle_iff (t : ℕ) (ht : t < 2 ^ 31) (v : BitVec 32) : IntOp.cmpi .sle v (BitVec.ofNat 32 t) = 1#1 ↔ v.toInt ≤ t := by
  rw [WordCmp.cmpi_sle_eq, StableHlo.Predicate.ofBool_eq_one_iff, decide_eq_true_iff, StableHlo.Predicate.toInt_ofNat_small t ht]

/-- Both bits set. -/
theorem andi_iff (a b : BitVec 1) : IntOp.andi a b = 1#1 ↔ a = 1#1 ∧ b = 1#1 := by
  revert a b; decide

/-- The kernel's word: the key is at or after the segment's start, and not after the position. -/
def seesWord (v0 v1 v2 t s : BitVec 32) : BitVec 1 :=
  IntOp.andi
    (IntOp.cmpi .sge s
      (Scalar.select (IntOp.cmpi .sge t v2) v2 (Scalar.select (IntOp.cmpi .sge t v1) v1 (Scalar.select (IntOp.cmpi .sge t v0) v0 0#32))))
    (IntOp.cmpi .sle s t)

theorem seesWord_iff (v0 v1 v2 : BitVec 32) (t s : ℕ) (ht : t < 2 ^ 31) (hs : s < 2 ^ 31) :
    seesWord v0 v1 v2 (BitVec.ofNat 32 t) (BitVec.ofNat 32 s) = 1#1 ↔ Sees v0.toInt v1.toInt v2.toInt t s := by
  rw [seesWord, andi_iff, sge_iff s hs, sle_iff t ht, StableHlo.Predicate.toInt_ofNat_small s hs]
  have z : (0#32).toInt = 0 := rfl
  have sel (w a b : BitVec 32) : (Scalar.select (IntOp.cmpi .sge (BitVec.ofNat 32 t) w) a b).toInt
      = if w.toInt ≤ t then a.toInt else b.toInt := by
    rw [Scalar.select_def, apply_ite BitVec.toInt]
    exact if_congr (sge_iff t ht w) rfl rfl
  simp only [sel, z]
  unfold Sees start
  exact and_congr_right fun _ => Nat.cast_le

/-- The reference's count of the four boundaries at or before a position. -/
def count (w : Fin 4 → BitVec 32) (t : ℕ) : BitVec 32 :=
  Finset.univ.fold IntOp.addi 0#32 fun x => BitVec.setWidth 32 (IntOp.cmpi .sle (w x) (BitVec.ofNat 32 t))

theorem count_eq (w : Fin 4 → BitVec 32) (t : ℕ) (ht : t < 2 ^ 31) :
    count w t = BitVec.ofNat 32 ((if (w 0).toInt ≤ t then 1 else 0) + (if (w 1).toInt ≤ t then 1 else 0)
      + (if (w 2).toInt ≤ t then 1 else 0) + (if (w 3).toInt ≤ t then 1 else 0)) := by
  have bit (v : BitVec 32) : BitVec.setWidth 32 (IntOp.cmpi .sle v (BitVec.ofNat 32 t)) = BitVec.ofNat 32 (if v.toInt ≤ t then 1 else 0) := by
    by_cases h : v.toInt ≤ t
    · rw [if_pos h, (sle_iff t ht v).2 h]; rfl
    · rw [if_neg h, WordCmp.cmpi_sle_eq, StableHlo.Predicate.toInt_ofNat_small t ht, decide_eq_false h]; rfl
  unfold count
  simp only [bit]
  change IntOp.addi _ (IntOp.addi _ (IntOp.addi _ (IntOp.addi _ (BitVec.ofNat 32 0)))) = _
  simp only [WordCmp.addi_ofNat, add_zero, add_assoc]
  rfl

/-- The reference's word says the same as the kernel's. -/
theorem count_iff (w : Fin 4 → BitVec 32) (g : Good (w 0).toInt (w 1).toInt (w 2).toInt (w 3).toInt) (t s : ℕ) (ht : t < 1024) (hs : s < 1024) :
    IntOp.andi (IntOp.cmpi .eq (count w t) (count w s)) (IntOp.cmpi .sge (BitVec.ofNat 32 t) (BitVec.ofNat 32 s)) = 1#1
      ↔ Sees (w 0).toInt (w 1).toInt (w 2).toInt t s := by
  rw [andi_iff, StableHlo.Predicate.cmpi_eq_iff, sge_iff t (by omega), StableHlo.Predicate.toInt_ofNat_small s (by omega),
    count_eq w t (by omega), count_eq w s (by omega), ← BitVec.toNat_inj, BitVec.toNat_ofNat, BitVec.toNat_ofNat]
  have := g.le12; have := g.le23; have := g.last
  generalize (w 0).toInt = a, (w 1).toInt = b, (w 2).toInt = c, (w 3).toInt = e at *
  unfold Sees start
  split_ifs <;> first | omega | (simp only [false_and, false_iff]; omega)

end Attn.Segments
-- ==== Proof.HeadValue.lean ====
/- One head's arithmetic in the kernel, read at an index: the quotient of two windowed sums of powers of two. -/
module

public import proofs.«01_k».proof.Proof.KernelIdealRun
public import proofs.«01_k».proof.Proof.Segments
public import Idealize.ShloMosaic.Lib.IdealHost

@[expose] public section

set_option maxRecDepth 20000

namespace Cert.KernelIdeal.Hand

open Idealize Idealize.ShloMosaic
open Cert.KernelIdeal Cert.KernelIdeal.Gen

/-- The factor of the queries, read ideally. -/
theorem scale_eq : Named.named (F := Ideal) Cert.KernelIdeal.κ "scale_log2e" (φ := .f32) 0x3E0293EE#32
    = (((√128)⁻¹ * (Real.log 2)⁻¹ : ℝ) : EReal) :=
  IdealRules.named_const.ideal_named_scalar _ _ _ _ rfl

/-- The mask's fill, read ideally. -/
theorem fill_eq : Named.named (F := Ideal) Cert.KernelIdeal.κ "mask" (φ := .f32) 0xF149F2CA#32 = (⊥ : EReal) :=
  IdealRules.named_const.ideal_named_scalar _ _ _ _ rfl

/-- What is added to the score of a key: nothing when it is seen, and the least extended real otherwise. -/
theorem fill_at (v0 v1 v2 : BitVec 32) (t s : ℕ) (ht : t < 2 ^ 31) (hs : s < 2 ^ 31) :
    Scalar.select (Attn.Segments.seesWord v0 v1 v2 (BitVec.ofNat 32 t) (BitVec.ofNat 32 s)) (0 : EReal)
        (Named.named (F := Ideal) Cert.KernelIdeal.κ "mask" (φ := .f32) 0xF149F2CA#32)
      = if Attn.Segments.Sees v0.toInt v1.toInt v2.toInt t s then 0 else ⊥ := by
  rw [Scalar.select_def, fill_eq]
  exact if_congr (Attn.Segments.seesWord_iff v0 v1 v2 t s ht hs) rfl rfl

/-- One element of a head's result, from what is added to each key's score. -/
noncomputable def quot {n : ℕ} (fill : Fin n → EReal) (kx vx : Vec Ideal (Attn.Slab n) .f32) (qx : Vec Ideal (Attn.Slab 256) .f32)
    (r : Fin 256) (d : Fin 128) : EReal :=
  Ideal.div
    (∑ j : Fin n, Ideal.exp2 (∑ x : Fin 128, qx (ix4 0 0 r x) * (((√128)⁻¹ * (Real.log 2)⁻¹ : ℝ) : EReal) * kx (ix4 0 0 j x) + fill j) * vx (ix4 0 0 j d))
    (∑ j : Fin n, Ideal.exp2 (∑ x : Fin 128, qx (ix4 0 0 r x) * (((√128)⁻¹ * (Real.log 2)⁻¹ : ℝ) : EReal) * kx (ix4 0 0 j x) + fill j))

/-- What block `i` adds to the score of key `j` of its window, at row `r`. -/
noncomputable def fill (c1 c2 c3 : BitVec 32) (i : Fin 4) (r : Fin 256) (j : Fin (Attn.win i).n) : EReal :=
  if Attn.Segments.Sees c1.toInt c2.toInt c3.toInt (256 * i.val + r.val) ((Attn.win i).st + j.val) then 0 else ⊥

/-- The same in the kernel's words, positions counted from `a` and keys from `b`. -/
theorem fill_words (c1 c2 c3 : BitVec 32) (i : Fin 4) (r : Fin 256) (j : Fin (Attn.win i).n) (a b : ℕ) (ha : a = 256 * i.val) (hb : b = (Attn.win i).st) :
    Scalar.select (Attn.Segments.seesWord c1 c2 c3 (IntOp.addi (BitVec.ofNat 32 a) (BitVec.ofNat 32 r)) (IntOp.addi (BitVec.ofNat 32 b) (BitVec.ofNat 32 j)))
        (0 : EReal) (Named.named (F := Ideal) Cert.KernelIdeal.κ "mask" (φ := .f32) 0xF149F2CA#32)
      = fill c1 c2 c3 i r j := by
  have hw := (Attn.win i).hst
  have := j.isLt
  subst ha hb
  rw [WordCmp.addi_ofNat, WordCmp.addi_ofNat, fill_at _ _ _ _ _ (by omega) (by omega)]
  rfl

theorem mask0_at (c1 c2 c3 : BitVec 32) (r : Fin 256) (j : Fin 256) : k0_pay1 (F := Ideal) c1 c2 c3 (ix2 r j) = fill c1 c2 c3 0 r j := by
  rw [← fill_words c1 c2 c3 0 r j 0 0 rfl rfl]; pointwise [k0_pay1]; rfl
theorem mask1_at (c1 c2 c3 : BitVec 32) (r : Fin 256) (j : Fin 384) : k0_pay32 (F := Ideal) c1 c2 c3 (ix2 r j) = fill c1 c2 c3 1 r j := by
  rw [← fill_words c1 c2 c3 1 r j 256 128 rfl rfl]; pointwise [k0_pay32]; rfl
theorem mask2_at (c1 c2 c3 : BitVec 32) (r : Fin 256) (j : Fin 384) : k0_pay63 (F := Ideal) c1 c2 c3 (ix2 r j) = fill c1 c2 c3 2 r j := by
  rw [← fill_words c1 c2 c3 2 r j 512 384 rfl rfl]; pointwise [k0_pay63]; rfl
theorem mask3_at (c1 c2 c3 : BitVec 32) (r : Fin 256) (j : Fin 640) : k0_pay94 (F := Ideal) c1 c2 c3 (ix2 r j) = fill c1 c2 c3 3 r j := by
  rw [← fill_words c1 c2 c3 3 r j 768 384 rfl rfl]; pointwise [k0_pay94]; rfl

theorem head0_at (mask : FVec Ideal S256x256 .f32) (kx vx : Vec Ideal S1x1x256x128 .f32) (qx : Vec Ideal S1x1x256x128 .f32) (r : Fin 256) (d : Fin 128) :
    k0_pay6 (F := Ideal) mask (k0_pay3 kx) (k0_pay4 k0_pay2 vx) qx (ix4 0 0 r d) = quot (fun j => mask (ix2 r j)) kx vx qx r d := by
  pointwise [k0_pay6, k0_pay3, k0_pay4, k0_pay2, scale_eq]; rfl
theorem head1_at (mask : FVec Ideal S256x384 .f32) (kx vx : Vec Ideal S1x1x384x128 .f32) (qx : Vec Ideal S1x1x256x128 .f32) (r : Fin 256) (d : Fin 128) :
    k0_pay37 (F := Ideal) mask (k0_pay34 kx) (k0_pay35 k0_pay33 vx) qx (ix4 0 0 r d) = quot (fun j => mask (ix2 r j)) kx vx qx r d := by
  pointwise [k0_pay37, k0_pay34, k0_pay35, k0_pay33, scale_eq]; rfl
theorem head2_at (mask : FVec Ideal S256x384 .f32) (kx vx : Vec Ideal S1x1x384x128 .f32) (qx : Vec Ideal S1x1x256x128 .f32) (r : Fin 256) (d : Fin 128) :
    k0_pay68 (F := Ideal) mask (k0_pay65 kx) (k0_pay66 k0_pay64 vx) qx (ix4 0 0 r d) = quot (fun j => mask (ix2 r j)) kx vx qx r d := by
  pointwise [k0_pay68, k0_pay65, k0_pay66, k0_pay64, scale_eq]; rfl
theorem head3_at (mask : FVec Ideal S256x640 .f32) (kx vx : Vec Ideal S1x1x640x128 .f32) (qx : Vec Ideal S1x1x256x128 .f32) (r : Fin 256) (d : Fin 128) :
    k0_pay99 (F := Ideal) mask (k0_pay96 kx) (k0_pay97 k0_pay95 vx) qx (ix4 0 0 r d) = quot (fun j => mask (ix2 r j)) kx vx qx r d := by
  pointwise [k0_pay99, k0_pay96, k0_pay97, k0_pay95, scale_eq]; rfl

/-- Every head of every block forms the same quotient. -/
theorem cells_at (T : main_arg3.ty.Contents (Elt Ideal)) (i : Fin 4) (h : Fin 16) (kx vx : Vec Ideal (Attn.Slab (Attn.win i).n) .f32)
    (qx : Vec Ideal (Attn.Slab 256) .f32) (r : Fin 256) (d : Fin 128) :
    cells (F := Ideal) T i h kx vx qx (ix4 0 0 r d) = quot (fill (cut1 T) (cut2 T) (cut3 T) i r) kx vx qx r d := by
  match i with
  | 0 => exact (head0_at _ kx vx qx r d).trans (congrArg (fun f => quot f kx vx qx r d) (funext (mask0_at _ _ _ r)))
  | 1 => exact (head1_at _ kx vx qx r d).trans (congrArg (fun f => quot f kx vx qx r d) (funext (mask1_at _ _ _ r)))
  | 2 => exact (head2_at _ kx vx qx r d).trans (congrArg (fun f => quot f kx vx qx r d) (funext (mask2_at _ _ _ r)))
  | 3 => exact (head3_at _ kx vx qx r d).trans (congrArg (fun f => quot f kx vx qx r d) (funext (mask3_at _ _ _ r)))

end Cert.KernelIdeal.Hand
-- ==== Proof.Softmax.lean ====
/- The plain mathematics of one output element: the quotient of the windowed base-two sums the kernel forms is the softmax
   average the reference forms. Queries and keys are finite; values may be any extended reals. -/
module

public import Idealize.ShloMosaic.PureOps.Ideal.Laws
public import Idealize.ShloMosaic.Lib.FinSumWindow

@[expose] public section

namespace Attn.Softmax

open Idealize.ShloMosaic
open scoped BigOperators

/-- A sum of reals, read in the extended reals. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A nonnegative real factor goes inside a sum of extended reals. -/
theorem sum_mul_coe {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- Dividing by a real that is not zero is multiplying by its inverse. -/
theorem div_coe_ne {x : EReal} {w : ℝ} (hw : w ≠ 0) : Ideal.div x (w : EReal) = x * ((w⁻¹ : ℝ) : EReal) := by
  rw [Ideal.div, if_neg (by exact_mod_cast hw), EReal.coe_inv]

section
variable (q : Fin 128 → ℝ) (k : Fin 1024 → Fin 128 → ℝ) (sees : Fin 1024 → Prop) [DecidablePred sees]

/-- The scaled product of the query with key `s`. -/
noncomputable def dotOf (s : Fin 1024) : ℝ := (∑ x, q x * k s x) * (√128)⁻¹

/-- The weight of key `s` before division: an exponential where the key is seen, and zero elsewhere. -/
noncomputable def wt (s : Fin 1024) : ℝ := if sees s then Real.exp (dotOf q k s) else 0

/-- All the weights together. -/
noncomputable def total : ℝ := ∑ s, wt q k sees s

theorem wt_nonneg (s : Fin 1024) : 0 ≤ wt q k sees s := by
  unfold wt; split_ifs
  · exact (Real.exp_pos _).le
  · exact le_rfl

theorem total_pos {t : Fin 1024} (ht : sees t) : 0 < total q k sees := by
  refine Finset.sum_pos' (fun s _ => wt_nonneg q k sees s) ⟨t, Finset.mem_univ _, ?_⟩
  rw [wt, if_pos ht]; exact Real.exp_pos _

/-- The kernel's weight of a key, a power of two, is `wt`. -/
theorem pow_eq (s : Fin 1024) :
    Ideal.exp2 (∑ x, (q x : EReal) * (((√128)⁻¹ * (Real.log 2)⁻¹ : ℝ) : EReal) * (k s x : EReal) + (if sees s then 0 else ⊥))
      = (wt q k sees s : EReal) := by
  by_cases h : sees s
  · rw [if_pos h, add_zero]
    simp only [← EReal.coe_mul]
    rw [coe_sum]
    show ((Real.rpow 2 _ : ℝ) : EReal) = _
    rw [wt, if_pos h]
    congr 1
    rw [Real.rpow_eq_pow, Real.rpow_def_of_pos two_pos]
    congr 1
    rw [dotOf, Finset.mul_sum, Finset.sum_mul]
    have h2 : Real.log 2 ≠ 0 := (Real.log_pos one_lt_two).ne'
    refine Finset.sum_congr rfl fun x _ => ?_
    field_simp
  · rw [if_neg h, EReal.add_bot, wt, if_neg h]; rfl

/-- The reference's masked score of key `s`. -/
noncomputable def masked (s : Fin 1024) : EReal :=
  if sees s then Ideal.div (∑ x, (q x : EReal) * (k s x : EReal)) (Ideal.sqrt ((128 : ℝ) : EReal)) else ⊥

theorem masked_of (s : Fin 1024) : masked q k sees s = if sees s then (dotOf q k s : EReal) else ⊥ := by
  unfold masked
  split_ifs with h
  · simp only [← EReal.coe_mul]
    rw [coe_sum, show Ideal.sqrt ((128 : ℝ) : EReal) = ((√128 : ℝ) : EReal) from if_neg (by norm_num),
      div_coe_ne (by positivity), ← EReal.coe_mul]
    rfl
  · rfl

/-- The largest masked score is a real when some key is seen. -/
theorem fold_real {t : Fin 1024} (ht : sees t) :
    ∃ M : ℝ, Finset.univ.fold max (⊥ : EReal) (masked q k sees) = (M : EReal) := by
  have lo : (dotOf q k t : EReal) ≤ Finset.univ.fold max (⊥ : EReal) (masked q k sees) := by
    rw [Finset.le_fold_max]
    exact .inr ⟨t, Finset.mem_univ _, by rw [masked_of, if_pos ht]⟩
  have hi : Finset.univ.fold max (⊥ : EReal) (masked q k sees) < ⊤ := by
    rw [Finset.fold_max_lt]
    refine ⟨bot_lt_top, fun s _ => ?_⟩
    rw [masked_of]; split_ifs
    · exact EReal.coe_lt_top _
    · exact bot_lt_top
  refine ⟨_, (EReal.coe_toReal hi.ne (fun e => ?_)).symm⟩
  rw [e] at lo
  exact absurd (le_bot_iff.mp lo) (EReal.coe_ne_bot _)

/-- The reference's weight of a key below any real `M`. -/
theorem exp_eq (M : ℝ) (s : Fin 1024) :
    Ideal.exp (masked q k sees s - (M : EReal)) = ((wt q k sees s * Real.exp (-M) : ℝ) : EReal) := by
  rw [masked_of, wt]
  split_ifs
  · rw [← EReal.coe_sub]
    show ((Real.exp _ : ℝ) : EReal) = _
    rw [sub_eq_add_neg, Real.exp_add]
  · rw [EReal.bot_sub, zero_mul]; rfl

/-- The kernel's quotient over a window that holds every seen key is the reference's average. -/
theorem quotient_eq {n st : ℕ} (hst : st + n ≤ 1024) (v : Fin 1024 → EReal) {t : Fin 1024} (ht : sees t)
    (hwin : ∀ s, sees s → st ≤ s.val ∧ s.val < st + n) :
    Ideal.div
        (∑ j : Fin n, Ideal.exp2 (∑ x, (q x : EReal) * (((√128)⁻¹ * (Real.log 2)⁻¹ : ℝ) : EReal) * (k ⟨st + j, by omega⟩ x : EReal)
          + (if sees ⟨st + j, by omega⟩ then 0 else ⊥)) * v ⟨st + j, by omega⟩)
        (∑ j : Fin n, Ideal.exp2 (∑ x, (q x : EReal) * (((√128)⁻¹ * (Real.log 2)⁻¹ : ℝ) : EReal) * (k ⟨st + j, by omega⟩ x : EReal)
          + (if sees ⟨st + j, by omega⟩ then 0 else ⊥)))
      = ∑ s, v s * Ideal.div (Ideal.exp (masked q k sees s - Finset.univ.fold max (⊥ : EReal) (masked q k sees)))
          (∑ s', Ideal.exp (masked q k sees s' - Finset.univ.fold max (⊥ : EReal) (masked q k sees))) := by
  obtain ⟨M, hM⟩ := fold_real q k sees ht
  have hW := total_pos q k sees ht
  have off : ∀ s : Fin 1024, ¬(st ≤ s.val ∧ s.val < st + n) → wt q k sees s = 0 := fun s hs => by
    rw [wt, if_neg fun h => hs (hwin s h)]
  simp only [pow_eq, hM, exp_eq]
  have all : ∑ s, ((wt q k sees s * Real.exp (-M) : ℝ) : EReal) = ((total q k sees * Real.exp (-M) : ℝ) : EReal) := by
    rw [coe_sum, ← Finset.sum_mul, total]
  have den : ∑ j : Fin n, (wt q k sees ⟨st + j, by omega⟩ : EReal) = (total q k sees : EReal) := by
    rw [coe_sum, total, FinSumWindow.sum_window st hst (wt q k sees) off]
  have num : ∑ j : Fin n, (wt q k sees ⟨st + j, by omega⟩ : EReal) * v ⟨st + j, by omega⟩
      = ∑ s, (wt q k sees s : EReal) * v s :=
    (FinSumWindow.sum_window st hst (fun s => (wt q k sees s : EReal) * v s) fun s hs => by
      rw [off s hs, EReal.coe_zero, zero_mul]).symm
  rw [all, den, num, div_coe_ne hW.ne', sum_mul_coe _ _ (inv_nonneg.mpr hW.le)]
  refine Finset.sum_congr rfl fun s _ => ?_
  have hE := Real.exp_pos (-M)
  rw [div_coe_ne (mul_pos hW hE).ne', ← EReal.coe_mul, mul_comm (wt q k sees s : EReal), mul_assoc, ← EReal.coe_mul]
  refine congrArg (fun r : ℝ => v s * (r : EReal)) ?_
  generalize wt q k sees s = w
  generalize total q k sees = W at hW
  generalize Real.exp (-M) = e at hE
  rw [mul_inv, mul_mul_mul_comm, mul_inv_cancel₀ hE.ne', mul_one]

end

end Attn.Softmax
-- ==== Proof.RefValue.lean ====
/- The reference's result, cut at its stages and read at an index: each output element is the softmax average of
   `Attn.Softmax`, over the keys that `Attn.Segments` says the position sees. -/
module

public import proofs.«01_k».proof.Proof.Gen.ReferenceIdeal.Run
public import proofs.«01_k».proof.Proof.Softmax
public import proofs.«01_k».proof.Proof.Segments
public import Idealize.ShloMosaic.Lib.IdealHost

@[expose] public section

set_option maxRecDepth 20000

namespace Cert.ReferenceIdeal.Hand

open Idealize Idealize.ShloMosaic
open Cert.ReferenceIdeal Cert.ReferenceIdeal.Gen

/-- The table of boundaries. -/
abbrev Tab := IVec S5 32
/-- Keys, or values. -/
abbrev Keys := FVec Ideal S1024x4x128 .f32
/-- Queries, or anything of one row per query head. -/
abbrev Rows := FVec Ideal S1024x16x128 .f32

/-- The number of segment starts at or before each position. -/
noncomputable def seg (T : Tab) : IVec S1024 32 :=
  Host.reduce IntOp.addi (extui 32 (cmpi .sle
    (broadcastInDim S1024x4 ![0, 1] bcast_S1x4_S1024x4_0_1 (broadcastInDim S1x4 ![1] bcast_S4_S1x4_1 (extractStridedSlice S4 ![1] T slices_S5_S4_1)))
    (broadcastInDim S1024x4 ![0, 1] bcast_S1024x1_S1024x4_0_1 (broadcastInDim S1024x1 ![0] bcast_S1024_S1024x1_0 (iotaInDim S1024 32 0))))
    natLt_1_32) (constantI S_ 32 0#32) reducesTo_S1024x4_S1024_d1 h_S_

/-- Which keys each position sees, as bits. -/
noncomputable def sees (T : Tab) : IVec S1024x1024 1 :=
  andi
    (cmpi .eq (broadcastInDim S1024x1024 ![0, 1] bcast_S1024x1_S1024x1024_0_1 (broadcastInDim S1024x1 ![0] bcast_S1024_S1024x1_0 (seg T)))
      (broadcastInDim S1024x1024 ![0, 1] bcast_S1x1024_S1024x1024_0_1 (broadcastInDim S1x1024 ![1] bcast_S1024_S1x1024_1 (seg T))))
    (cmpi .sge (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0))))

/-- Keys or values, one copy per query head. -/
noncomputable def perHead (x : Keys) : Rows :=
  shapeCast _ (broadcastInDim S1024x4x4x128 ![0, 1, 3] bcast_S1024x4x128_S1024x4x4x128_0_1_3 x) shapeCasts_S1024x4x4x128_S1024x16x128

/-- The masked scores. -/
noncomputable def score (q : Rows) (k : Keys) (T : Tab) : FVec Ideal S16x1024x1024 .f32 :=
  select (broadcastInDim S16x1024x1024 ![0, 1, 2] bcast_S1x1024x1024_S16x1024x1024_0_1_2 (broadcastInDim S1x1024x1024 ![1, 2] bcast_S1024x1024_S1x1024x1024_1_2 (sees T)))
    (Host.divf (Host.dotGeneral dot_S1024x16x128_S1024x16x128_S16x1024x1024_2_2_0_0_1_1 none q (perHead k))
      (broadcastInDim S16x1024x1024 ![] bcast_S_S16x1024x1024 (Host.sqrt (constant S_ .f32 0x43000000#32))))
    (broadcastInDim S16x1024x1024 ![] bcast_S_S16x1024x1024 (id (constant S_ .f32 0xFF800000#32)))

/-- The largest entry of each row, for any sizes. -/
noncomputable def topOf {n0 n1 n2 : ℕ} (hb : S_.BroadcastsInDim ⟨2, ![n0, n1]⟩ ![])
    (h : (⟨3, ![n0, n1, n2]⟩ : Shape).ReducesTo [2] ⟨2, ![n0, n1]⟩) (x : FVec Ideal ⟨3, ![n0, n1, n2]⟩ .f32) : FVec Ideal ⟨2, ![n0, n1]⟩ .f32 :=
  maximumf (broadcastInDim ⟨2, ![n0, n1]⟩ ![] hb (constant S_ .f32 0xFF800000#32))
    (Host.reduce FloatOps.maximumf x (constant S_ .f32 0xFF800000#32) h h_S_)

/-- The largest score of each row. -/
noncomputable def top (x : FVec Ideal S16x1024x1024 .f32) : FVec Ideal S16x1024 .f32 :=
  topOf (n0 := 16) (n1 := 1024) (n2 := 1024) bcast_S_S16x1024 reducesTo_S16x1024x1024_S16x1024_d2 x

/-- The exponentials of the scores below the row's largest. -/
noncomputable def weight (x : FVec Ideal S16x1024x1024 .f32) : FVec Ideal S16x1024x1024 .f32 :=
  Host.exp (subf x (broadcastInDim S16x1024x1024 ![0, 1, 2] bcast_S16x1024x1_S16x1024x1024_0_1_2
    (broadcastInDim S16x1024x1 ![0, 1] bcast_S16x1024_S16x1024x1_0_1 (top x))))

/-- The weights over their row sums. -/
noncomputable def share (x : FVec Ideal S16x1024x1024 .f32) : FVec Ideal S16x1024x1024 .f32 :=
  Host.divf (weight x) (broadcastInDim S16x1024x1024 ![0, 1, 2] bcast_S16x1024x1_S16x1024x1024_0_1_2
    (broadcastInDim S16x1024x1 ![0, 1] bcast_S16x1024_S16x1024x1_0_1
      (Host.reduceAdd (weight x) (constant S_ .f32 0x00000000#32) reducesTo_S16x1024x1024_S16x1024_d2 h_S_)))

/-- The reference's attention. -/
noncomputable def attn (q : Rows) (k v : Keys) (T : Tab) : Rows :=
  transpose S1024x16x128 [2, 0, 1] (Host.dotGeneral dot_S1024x16x128_S16x1024x1024_S16x128x1024_0_2_2_1_1_0 none (perHead v) (share (score q k T)))
    transposes_S16x128x1024_S1024x16x128_2_0_1

/-- The result the generated run states is the attention of the four arguments. -/
theorem result_eq (m : (ℓ : Loc nD τ sig) → Buf (Elt Ideal) ℓ) (c : Dev nD) :
    Cert.ReferenceIdeal.Value.res_main_v42 m c
      = attn (m ((c.tc : Thread nD τ).loc main_arg0)) (m ((c.tc : Thread nD τ).loc main_arg1))
          (m ((c.tc : Thread nD τ).loc main_arg2)) (m ((c.tc : Thread nD τ).loc main_arg3)) := rfl

/-- The four boundaries the reference counts. -/
def bounds (T : Tab) (x : Fin 4) : BitVec 32 := T (ix1 ⟨1 + x, by omega⟩)

theorem seg_at (T : Tab) (t : Fin 1024) : seg T (ix1 t) = Attn.Segments.count (bounds T) t := by
  pointwise [seg]; rfl

/-- The bit of a position and a key says whether the key is seen. -/
theorem sees_at (T : Tab) (g : Attn.Segments.Good (bounds T 0).toInt (bounds T 1).toInt (bounds T 2).toInt (bounds T 3).toInt) (t s : Fin 1024) :
    sees T (ix2 t s) = 1#1 ↔ Attn.Segments.Sees (bounds T 0).toInt (bounds T 1).toInt (bounds T 2).toInt t s := by
  rw [← Attn.Segments.count_iff (bounds T) g t s t.isLt s.isLt, ← seg_at, ← seg_at]
  apply Iff.of_eq; congr 1
  pointwise [sees]

theorem perHead_at (x : Keys) (t : Fin 1024) (h : Fin 16) (d : Fin 128) :
    perHead x (ix3 t h d) = x (ix3 t ⟨h / 4, by omega⟩ d) := by
  pointwise [perHead]

/-- The infinite pattern is the least extended real. -/
theorem ofBits_neg_inf : Ideal.ofBits .f32 0xFF800000#32 = ⊥ := by
  simp [Ideal.ofBits, Ideal.ieee]

/-- The pattern of the head size is the real 128. -/
theorem ofBits_head : Ideal.ofBits .f32 0x43000000#32 = ((128 : ℝ) : EReal) := by
  simp [Ideal.ofBits, Ideal.ieee, -EReal.coe_mul]; norm_num

theorem topOf_at {n0 n1 n2 : ℕ} (hb : S_.BroadcastsInDim ⟨2, ![n0, n1]⟩ ![])
    (h : (⟨3, ![n0, n1, n2]⟩ : Shape).ReducesTo [2] ⟨2, ![n0, n1]⟩) (x : FVec Ideal ⟨3, ![n0, n1, n2]⟩ .f32) (a : Fin n0) (b : Fin n1) :
    topOf hb h x (ix2 a b) = Finset.univ.fold max (⊥ : EReal) (fun s => x (ix3 a b s)) := by
  pointwise [topOf]
  rw [ofBits_neg_inf, bot_sup_eq]

theorem top_at (x : FVec Ideal S16x1024x1024 .f32) (h : Fin 16) (t : Fin 1024) :
    top x (ix2 h t) = Finset.univ.fold max (⊥ : EReal) (fun s => x (ix3 h t s)) := by
  rw [top, topOf_at]

theorem weight_at (x : FVec Ideal S16x1024x1024 .f32) (h : Fin 16) (t s : Fin 1024) :
    weight x (ix3 h t s) = Ideal.exp (x (ix3 h t s) - Finset.univ.fold max (⊥ : EReal) (fun s => x (ix3 h t s))) := by
  rw [← top_at]
  pointwise [weight]

theorem share_at (x : FVec Ideal S16x1024x1024 .f32) (h : Fin 16) (t s : Fin 1024) :
    share x (ix3 h t s) = Ideal.div (weight x (ix3 h t s)) (∑ s', weight x (ix3 h t s')) := by
  pointwise [share]

theorem attn_at (q : Rows) (k v : Keys) (T : Tab) (h : Fin 16) (t : Fin 1024) (d : Fin 128) :
    attn q k v T (ix3 t h d) = ∑ s, v (ix3 s ⟨h / 4, by omega⟩ d) * share (score q k T) (ix3 h t s) := by
  pointwise [attn, perHead_at]

/-- The masked scores at an index are `Attn.Softmax.masked`, of finite queries and keys. -/
theorem score_at (q : Rows) (k : Keys) (T : Tab) (g : Attn.Segments.Good (bounds T 0).toInt (bounds T 1).toInt (bounds T 2).toInt (bounds T 3).toInt)
    (h : Fin 16) (t s : Fin 1024) (qr : Fin 128 → ℝ) (kr : Fin 1024 → Fin 128 → ℝ) (hq : ∀ x, q (ix3 t h x) = (qr x : EReal))
    (hk : ∀ s x, k (ix3 s ⟨h / 4, by omega⟩ x) = (kr s x : EReal)) :
    score q k T (ix3 h t s)
      = Attn.Softmax.masked qr kr (fun s => Attn.Segments.Sees (bounds T 0).toInt (bounds T 1).toInt (bounds T 2).toInt t s) s := by
  pointwise [score, perHead_at, hq, hk]
  rw [Scalar.select_def, ofBits_head]
  unfold Attn.Softmax.masked
  refine if_congr (sees_at T g t s) rfl ?_
  exact ofBits_neg_inf

/-- One element of the reference's result. -/
theorem attn_eq (q : Rows) (k v : Keys) (T : Tab) (g : Attn.Segments.Good (bounds T 0).toInt (bounds T 1).toInt (bounds T 2).toInt (bounds T 3).toInt)
    (h : Fin 16) (t : Fin 1024) (d : Fin 128) (qr : Fin 128 → ℝ) (kr : Fin 1024 → Fin 128 → ℝ) (hq : ∀ x, q (ix3 t h x) = (qr x : EReal))
    (hk : ∀ s x, k (ix3 s ⟨h / 4, by omega⟩ x) = (kr s x : EReal)) :
    attn q k v T (ix3 t h d)
      = ∑ s, v (ix3 s ⟨h / 4, by omega⟩ d) * Ideal.div
          (Ideal.exp (Attn.Softmax.masked qr kr (fun s => Attn.Segments.Sees (bounds T 0).toInt (bounds T 1).toInt (bounds T 2).toInt t s) s
            - Finset.univ.fold max (⊥ : EReal) (Attn.Softmax.masked qr kr fun s => Attn.Segments.Sees (bounds T 0).toInt (bounds T 1).toInt (bounds T 2).toInt t s)))
          (∑ s', Ideal.exp (Attn.Softmax.masked qr kr (fun s => Attn.Segments.Sees (bounds T 0).toInt (bounds T 1).toInt (bounds T 2).toInt t s) s'
            - Finset.univ.fold max (⊥ : EReal) (Attn.Softmax.masked qr kr fun s => Attn.Segments.Sees (bounds T 0).toInt (bounds T 1).toInt (bounds T 2).toInt t s))) := by
  rw [attn_at]
  simp only [share_at, weight_at, score_at q k T g h t _ qr kr hq hk]

end Cert.ReferenceIdeal.Hand
-- ==== Proof.Domain.lean ====
/- What the precondition `boundaries` says: queries and keys are finite, and the boundaries are good. -/
module

public import proofs.«01_k».proof.Proof.Gen.Pre_boundaries
public import proofs.«01_k».proof.Proof.Segments
public import Idealize.ShloMosaic.Lib.IdealHost
public import Idealize.ShloMosaic.Lib.ReduceAll

@[expose] public section

set_option maxRecDepth 20000

namespace Cert.Pre_boundaries.Hand

open Idealize Idealize.ShloMosaic
open Cert.Pre_boundaries Cert.Pre_boundaries.Gen

instance : Subsingleton S_.Idx := ⟨fun a b => funext fun x => x.elim0⟩

theorem and_one {x y : IVec S_ 1} (h : andi x y = fun _ => 1#1) : x = (fun _ => 1#1) ∧ y = fun _ => 1#1 :=
  ⟨funext fun i => ((Attn.Segments.andi_iff _ _).1 (congrFun h i)).1, funext fun i => ((Attn.Segments.andi_iff _ _).1 (congrFun h i)).2⟩

/-- The pattern of infinity is the greatest extended real. -/
theorem ofBits_inf : Ideal.ofBits .f32 0x7F800000#32 = ⊤ := by
  simp [Ideal.ofBits, Ideal.ieee]

/-- An entry whose size is below infinity is a real. -/
theorem finite_of {s : Shape} (hb : S_.BroadcastsInDim s ![]) (x : FVec Ideal s .f32) (i : s.Idx)
    (h : cmpf .olt (Host.absf x) (broadcastInDim s ![] hb (constant S_ .f32 0x7F800000#32)) i = 1#1) : x i ≠ ⊤ ∧ x i ≠ ⊥ := by
  pointwise at h
  rw [ofBits_inf, StableHlo.Predicate.ofBool_eq_one_iff, decide_eq_true_iff] at h
  obtain ⟨h1, h2⟩ := max_lt_iff.mp (show max (x i) (-x i) < (⊤ : EReal) from h)
  exact ⟨h1.ne, fun e => by rw [e, EReal.neg_bot] at h2; exact lt_irrefl _ h2⟩

/-- Either bit set. -/
theorem ori_iff (a b : BitVec 1) : IntOp.ori a b = 1#1 ↔ a = 1#1 ∨ b = 1#1 := by
  revert a b; decide

/-- Some inner boundary lies between two numbers. -/
theorem near_of (a b : ℕ) (ha : a < 2 ^ 31) (hb : b < 2 ^ 31) (T : IVec S5 32)
    (h : Host.reduce IntOp.ori
      (andi (cmpi .sge (extractStridedSlice S3 ![1] T slices_S5_S3_1) (broadcastInDim S3 ![] bcast_S_S3 (constantI S_ 32 (BitVec.ofNat 32 a))))
        (cmpi .sle (extractStridedSlice S3 ![1] T slices_S5_S3_1) (broadcastInDim S3 ![] bcast_S_S3 (constantI S_ 32 (BitVec.ofNat 32 b)))))
      (constantI S_ 1 0#1) reducesTo_S3_S_d0 h_S_ = fun _ => 1#1) :
    ((a : ℤ) ≤ (T (ix1 1)).toInt ∧ (T (ix1 1)).toInt ≤ b) ∨ ((a : ℤ) ≤ (T (ix1 2)).toInt ∧ (T (ix1 2)).toInt ≤ b)
      ∨ ((a : ℤ) ≤ (T (ix1 3)).toInt ∧ (T (ix1 3)).toInt ≤ b) := by
  have e := congrFun h ix0
  pointwise at e
  have one (v : BitVec 32) : IntOp.andi (IntOp.cmpi .sge v (BitVec.ofNat 32 a)) (IntOp.cmpi .sle v (BitVec.ofNat 32 b)) = 1#1
      ↔ (a : ℤ) ≤ v.toInt ∧ v.toInt ≤ b := by
    rw [Attn.Segments.andi_iff, Attn.Segments.sle_iff b hb, WordCmp.cmpi_sge_eq, StableHlo.Predicate.ofBool_eq_one_iff, decide_eq_true_iff,
      StableHlo.Predicate.toInt_ofNat_small a ha]
  change IntOp.ori _ (IntOp.ori _ (IntOp.ori _ 0#1)) = 1#1 at e
  rw [ori_iff, ori_iff, ori_iff, one, one, one] at e
  rcases e with e | e | e | e
  · exact .inl e
  · exact .inr (.inl e)
  · exact .inr (.inr e)
  · exact absurd e (by decide)

/-- Two boundaries in order. -/
theorem le_of {a b : BitVec 32} (h : IntOp.cmpi .sle a b = 1#1) : a.toInt ≤ b.toInt := by
  rwa [WordCmp.cmpi_sle_eq, StableHlo.Predicate.ofBool_eq_one_iff, decide_eq_true_iff] at h

/-- The precondition, read. -/
theorem decode (q : FVec Ideal S1024x16x128 .f32) (k v : FVec Ideal S1024x4x128 .f32) (T : IVec S5 32)
    (h : fn (F := Ideal) q k v T = fun _ => 1#1) :
    (∀ i, q i ≠ ⊤ ∧ q i ≠ ⊥) ∧ (∀ i, k i ≠ ⊤ ∧ k i ≠ ⊥)
      ∧ Attn.Segments.Good (T (ix1 1)).toInt (T (ix1 2)).toInt (T (ix1 3)).toInt (T (ix1 4)).toInt := by
  simp only [fn, fn_part1, fn_part2] at h
  obtain ⟨h1, h2⟩ := and_one h
  obtain ⟨hlo, hhi⟩ := and_one h2
  obtain ⟨h3, h4⟩ := and_one h1
  obtain ⟨hq, hk⟩ := and_one h3
  obtain ⟨h5, hl⟩ := and_one h4
  obtain ⟨h12, h23⟩ := and_one h5
  replace h12 := congrFun h12 ix0
  replace h23 := congrFun h23 ix0
  replace hl := congrFun hl ix0
  pointwise at h12 h23 hl
  refine ⟨fun i => finite_of _ q i (Host.reduce_andi_all _ _ _ _ ix0 (congrFun hq ix0) i),
    fun i => finite_of _ k i (Host.reduce_andi_all _ _ _ _ ix0 (congrFun hk ix0) i), le_of h12, le_of h23, ?_, near_of 128 256 (by decide) (by decide) T hlo,
    near_of 384 512 (by decide) (by decide) T hhi⟩
  rwa [WordCmp.cmpi_sge_eq, StableHlo.Predicate.ofBool_eq_one_iff, decide_eq_true_iff] at hl

end Cert.Pre_boundaries.Hand
-- ==== Proof.Value.lean ====
/- The kernel's result array is the reference's, element by element. -/
module

public import proofs.«01_k».proof.Proof.HeadValue
public import proofs.«01_k».proof.Proof.RefValue
public import proofs.«01_k».proof.Proof.Softmax
public import proofs.«01_k».proof.Proof.Domain
public import Idealize.ShloMosaic.Lib.Pointwise
public import Idealize.ShloMosaic.Lib.Pipeline.Value

@[expose] public section

set_option maxRecDepth 20000

namespace Cert.KernelIdeal.Hand

open Idealize Idealize.ShloMosaic Idealize.SL.Sem
open Cert.KernelIdeal Cert.KernelIdeal.Gen

/-- A head's rows with their two unit axes, read at a row and a feature. -/
theorem slab_at {α : Type} {n : ℕ} (x : (Attn.Mat n).Idx → α) (r : Fin n) (d : Fin 128) :
    shapeCast (Attn.Slab n) x (Attn.Env.castSlab n) (ix4 0 0 r d) = x (ix2 r d) :=
  shapeCast_apply _ _ _ _ (by rw [Shape.rowMajor_val_two, Shape.rowMajor_val_four]; show r.val * 128 + d.val = ((0 * 1 + 0) * n + r.val) * 128 + d.val; omega)

/-- The same with the unit axes dropped. -/
theorem mat_at {α : Type} {n : ℕ} (x : (Attn.Slab n).Idx → α) (r : Fin n) (d : Fin 128) :
    shapeCast (Attn.Mat n) x (Attn.Env.castMat n) (ix2 r d) = x (ix4 0 0 r d) :=
  shapeCast_apply _ _ _ _ (by rw [Shape.rowMajor_val_two, Shape.rowMajor_val_four]; show ((0 * 1 + 0) * n + r.val) * 128 + d.val = r.val * 128 + d.val; omega)

/-- A strip's index behind a row and a feature. -/
theorem strip_ix {n : ℕ} (h : (Attn.Mat n).numel = (Attn.Strip n).numel) (r : Fin n) (d : Fin 128) :
    Shape.reshapeEquiv h (ix2 r d) = ix3 r 0 d :=
  Shape.reshapeEquiv_eq_of_rowMajor _ (by rw [Shape.rowMajor_val_two, Shape.rowMajor_val_three]; show (r.val * 1 + 0) * 128 + d.val = r.val * 128 + d.val; omega)

/-- A head's rows of block `i`, read at a row and a feature. -/
theorem ixA (i : Fin 4) (h : Fin 16) (r : Fin 256) (d : Fin 128) (e : (Attn.Mat 256).numel = (Attn.Strip 256).numel) :
    (Attn.rA i h).emb (Shape.reshapeEquiv e (ix2 r d)) = ix3 ⟨256 * i.val + r.val, by omega⟩ h d := by
  rw [strip_ix]
  funext a
  apply Fin.ext
  match a with
  | 0 => show 256 * i.val + 1 * r.val = 256 * i.val + r.val; omega
  | 1 => show h.val + 1 * 0 = h.val; omega
  | 2 => show 0 + 1 * d.val = d.val; omega

/-- A key head's rows of window `w`, read at a row and a feature. -/
theorem ixB (w : Attn.Win) (g : Fin 4) (r : Fin w.n) (d : Fin 128) (e : (Attn.Mat w.n).numel = (Attn.Strip w.n).numel) :
    (Attn.rB w g).emb (Shape.reshapeEquiv e (ix2 r d)) = ix3 ⟨w.st + r.val, by have := w.hst; omega⟩ g d := by
  rw [strip_ix]
  funext a
  apply Fin.ext
  match a with
  | 0 => show w.st + 1 * r.val = w.st + r.val; omega
  | 1 => show g.val + 1 * 0 = g.val; omega
  | 2 => show 0 + 1 * d.val = d.val; omega

variable (m : (ℓ : Loc nD τ sig) → Buf (Elt Ideal) ℓ) (c : Dev nD)

theorem lq_at (i : Fin 4) (h : Fin 16) (r : Fin 256) (d : Fin 128) :
    (env (F := Ideal) m c).lq i h (ix4 0 0 r d) = V m c main_arg0 (ix3 ⟨256 * i.val + r.val, by omega⟩ h d) :=
  (slab_at _ r d).trans (congrArg (V m c main_arg0) (ixA i h r d _))

theorem lk_at (i : Fin 4) (g : Fin 4) (j : Fin (Attn.win i).n) (d : Fin 128) :
    (env (F := Ideal) m c).lk i g (ix4 0 0 j d) = V m c main_arg1 (ix3 ⟨(Attn.win i).st + j.val, by have := (Attn.win i).hst; omega⟩ g d) :=
  (slab_at _ j d).trans (congrArg (V m c main_arg1) (ixB (Attn.win i) g j d _))

theorem lv_at (i : Fin 4) (g : Fin 4) (j : Fin (Attn.win i).n) (d : Fin 128) :
    (env (F := Ideal) m c).lv i g (ix4 0 0 j d) = V m c main_arg2 (ix3 ⟨(Attn.win i).st + j.val, by have := (Attn.win i).hst; omega⟩ g d) :=
  (slab_at _ j d).trans (congrArg (V m c main_arg2) (ixB (Attn.win i) g j d _))

/-- The boundaries the kernel reads are the table's. -/
theorem word_at (T : main_arg3.ty.Contents (Elt Ideal)) (j : Fin 5) (h : ∀ a, (![j.val] : Fin 1 → ℕ) a + S1.size a ≤ S5.size a) : word T j.val h = T (ix1 j) := by
  unfold word
  refine congrArg T ?_
  funext a
  apply Fin.ext
  match a with
  | 0 => rfl

/-- Every key a row of block `i` sees lies in the window of block `i`. -/
theorem seen_in_window {c1 c2 c3 c4 : ℤ} (g : Attn.Segments.Good c1 c2 c3 c4) (i : Fin 4) (r : Fin 256) (s : ℕ)
    (h : Attn.Segments.Sees c1 c2 c3 (256 * i.val + r.val) s) : (Attn.win i).st ≤ s ∧ s < (Attn.win i).st + (Attn.win i).n := by
  have hs : s ≤ 256 * i.val + r.val := h.2
  have := r.isLt
  match i with
  | 0 => exact ⟨Nat.zero_le _, show s < 0 + 256 by omega⟩
  | 1 => exact ⟨g.low_bound (by omega) h, show s < 128 + 384 by omega⟩
  | 2 => exact ⟨g.high_bound (by omega) h, show s < 384 + 384 by omega⟩
  | 3 => exact ⟨g.high_bound (by omega) h, show s < 384 + 640 by omega⟩

open Cert.ReferenceIdeal.Hand (attn bounds attn_eq)

theorem cut1_eq (T : main_arg3.ty.Contents (Elt Ideal)) : cut1 T = bounds T 0 := word_at T 1 _
theorem cut2_eq (T : main_arg3.ty.Contents (Elt Ideal)) : cut2 T = bounds T 1 := word_at T 2 _
theorem cut3_eq (T : main_arg3.ty.Contents (Elt Ideal)) : cut3 T = bounds T 2 := word_at T 3 _

/-- A head's result on a block is the reference's at the block's rows. -/
theorem outMat_at
    (hq : ∀ i, V m c main_arg0 i ≠ (⊤ : EReal) ∧ V m c main_arg0 i ≠ (⊥ : EReal)) (hk : ∀ i, V m c main_arg1 i ≠ (⊤ : EReal) ∧ V m c main_arg1 i ≠ (⊥ : EReal))
    (g : Attn.Segments.Good (bounds (V m c main_arg3) 0).toInt (bounds (V m c main_arg3) 1).toInt (bounds (V m c main_arg3) 2).toInt (bounds (V m c main_arg3) 3).toInt)
    (i : Fin 4) (h : Fin 16) (r : Fin 256) (d : Fin 128) :
    (env (F := Ideal) m c).outMat i h (ix2 r d)
      = attn (V m c main_arg0) (V m c main_arg1) (V m c main_arg2) (V m c main_arg3) (ix3 ⟨256 * i.val + r.val, by omega⟩ h d) := by
  have real {x : EReal} (hx : x ≠ ⊤ ∧ x ≠ ⊥) : x = (x.toReal : EReal) := (EReal.coe_toReal hx.1 hx.2).symm
  have e := attn_eq (V m c main_arg0) (V m c main_arg1) (V m c main_arg2) (V m c main_arg3) g h ⟨256 * i.val + r.val, by omega⟩ d
    (fun x => (V m c main_arg0 (ix3 ⟨256 * i.val + r.val, by omega⟩ h x) : EReal).toReal)
    (fun s x => (V m c main_arg1 (ix3 s (Attn.kvOf h) x) : EReal).toReal) (fun x => real (hq _)) (fun s x => real (hk _))
  have e' := Attn.Softmax.quotient_eq (fun x => (V m c main_arg0 (ix3 ⟨256 * i.val + r.val, by omega⟩ h x) : EReal).toReal)
    (fun s x => (V m c main_arg1 (ix3 s (Attn.kvOf h) x) : EReal).toReal)
    (fun s : Fin 1024 => Attn.Segments.Sees (bounds (V m c main_arg3) 0).toInt (bounds (V m c main_arg3) 1).toInt (bounds (V m c main_arg3) 2).toInt
      (256 * i.val + r.val) s.val)
    (Attn.win i).hst (fun s => (V m c main_arg2 (ix3 s (Attn.kvOf h) d) : EReal))
    (t := ⟨256 * i.val + r.val, by omega⟩) (Attn.Segments.sees_self _ _ _ _) fun s hs => seen_in_window g i r s.val hs
  refine Eq.trans ?_ (e'.trans e.symm)
  refine (mat_at _ r d).trans ((cells_at (V m c main_arg3) i h _ _ _ r d).trans ?_)
  unfold quot
  have hl : ∀ j : Fin (Attn.win i).n,
      (∑ x : Fin 128, (env (F := Ideal) m c).lq i h (ix4 0 0 r x) * (((√128)⁻¹ * (Real.log 2)⁻¹ : ℝ) : EReal) * (env (F := Ideal) m c).lk i (Attn.kvOf h) (ix4 0 0 j x) : EReal)
        = ∑ x : Fin 128, (((V m c main_arg0 (ix3 ⟨256 * i.val + r.val, by omega⟩ h x) : EReal).toReal : ℝ) : EReal) * (((√128)⁻¹ * (Real.log 2)⁻¹ : ℝ) : EReal)
          * (((V m c main_arg1 (ix3 ⟨(Attn.win i).st + j.val, by have := (Attn.win i).hst; omega⟩ (Attn.kvOf h) x) : EReal).toReal : ℝ) : EReal) := fun j =>
    Finset.sum_congr rfl fun x _ => by
      rw [lq_at, lk_at, ← real (hq _), ← real (hk _)]
  have hf : ∀ j : Fin (Attn.win i).n, fill (cut1 (V m c main_arg3)) (cut2 (V m c main_arg3)) (cut3 (V m c main_arg3)) i r j
      = if Attn.Segments.Sees (bounds (V m c main_arg3) 0).toInt (bounds (V m c main_arg3) 1).toInt (bounds (V m c main_arg3) 2).toInt
          (256 * i.val + r.val) ((Attn.win i).st + j.val) then 0 else ⊥ := fun j => by
    rw [cut1_eq, cut2_eq, cut3_eq]
    rfl
  simp only [hl, hf, lv_at]

/-- An array whose strips are the heads' results is the reference's. -/
theorem result_of
    (hq : ∀ i, V m c main_arg0 i ≠ (⊤ : EReal) ∧ V m c main_arg0 i ≠ (⊥ : EReal)) (hk : ∀ i, V m c main_arg1 i ≠ (⊤ : EReal) ∧ V m c main_arg1 i ≠ (⊥ : EReal))
    (g : Attn.Segments.Good (bounds (V m c main_arg3) 0).toInt (bounds (V m c main_arg3) 1).toInt (bounds (V m c main_arg3) 2).toInt (bounds (V m c main_arg3) 3).toInt)
    (f : main_v0.ty.Contents (Elt Ideal)) (hf : ∀ i h, (Attn.Bufs.stripA (B0).o i h).view.read (Elt Ideal) f = (env (F := Ideal) m c).outMat i h) :
    f = attn (V m c main_arg0) (V m c main_arg1) (V m c main_arg2) (V m c main_arg3) := by
  funext j
  obtain ⟨t, h, d, rfl⟩ : ∃ (t : Fin 1024) (h : Fin 16) (d : Fin 128), j = ix3 t h d := ⟨j 0, j 1, j 2, eq_ix3 j⟩
  obtain ⟨i, r, rfl⟩ : ∃ (i : Fin 4) (r : Fin 256), t = ⟨256 * i.val + r.val, by omega⟩ :=
    ⟨⟨t.val / 256, by omega⟩, ⟨t.val % 256, by omega⟩, Fin.ext (Nat.div_add_mod t.val 256).symm⟩
  exact (congrArg f (ixA i h r d (by decide))).symm.trans ((congrFun (hf i h) (ix2 r d)).trans (outMat_at m c hq hk g i h r d))

end Cert.KernelIdeal.Hand
-- ==== Proof.lean ====
/-
  The certificate's claims: the kernel, its idealization and the reference each terminate without a fault and leave
  their arguments and every semaphore as they found them; the idealization changes the kernel by its named constants
  only.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_boundaries
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := fun m g _ => Cert.Kernel.Hand.frame m g
theorem frame_pi : Cert.quiescent_KernelIdeal := fun m g _ => Cert.KernelIdeal.Hand.frame m g
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E0293EE#32 (((Real.sqrt 128)⁻¹ * (Real.log 2)⁻¹ : ℝ) : EReal) rfl⟩

/-- Under the precondition both programs compute the same array of extended reals. -/
theorem algebraic : Cert.algebraic_KernelIdeal_ReferenceIdeal_pre_boundaries := by
  intro m g m' g' hpre hagree
  refine ⟨fun c => Cert.ReferenceIdeal.Value.res_main_v42 m' c, ?_, ?_⟩
  · refine (θ_run Cert.KernelIdeal.defs _ _).mono (fun r h c => ?_) (Cert.KernelIdeal.Hand.run_main (F := Ideal) m g)
    obtain ⟨hq, hk, hg⟩ := Cert.Pre_boundaries.Hand.decode _ _ _ _ (hpre c)
    obtain ⟨h0, h1, h2, h3⟩ := hagree c
    obtain ⟨a0, a1, a2, a3, hf⟩ := h.1 c
    refine ⟨(Cert.KernelIdeal.Hand.result_of m c hq hk hg _ hf).trans ?_, a0, a1, a2, a3⟩
    refine Eq.trans ?_ (Cert.ReferenceIdeal.Hand.result_eq m' c).symm
    rw [h0, h1, h2, h3]
  · exact (θ_run Cert.ReferenceIdeal.defs _ _).mono (fun r h c => h c) (Cert.ReferenceIdeal.Value.run (F := Ideal) m' g')

theorem claim : Cert.Claim :=
  ⟨Cert.Kernel.Gen.facts, Cert.KernelIdeal.Gen.facts, Cert.ReferenceIdeal.Gen.facts, Cert.Pre_boundaries.Gen.facts, frame_p, frame_pi,
    fun m g _ => frame_pi m g trivial, frame_ri, fun m g _ => frame_ri m g trivial, preserves, algebraic⟩

end Cert.Proof

end
